-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_poles [hPre_finite_and_poles : Cert.Pre_finite_and_poles.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_poles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_poles [hPre_finite_and_poles : Cert.Pre_finite_and_poles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_poles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_and_poles [hKernelIdeal : Cert.KernelIdeal.Facts] [hPre_finite_and_poles : Cert.Pre_finite_and_poles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_poles m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_and_poles [hReferenceIdeal : Cert.ReferenceIdeal.Facts] [hPre_finite_and_poles : Cert.Pre_finite_and_poles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_poles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite_and_poles [hKernelIdeal : Cert.KernelIdeal.Facts] [hReferenceIdeal : Cert.ReferenceIdeal.Facts] [hPre_finite_and_poles : Cert.Pre_finite_and_poles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_poles m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_and_poles : Cert.Pre_finite_and_poles.Facts),
    quiescent_Kernel (hKernel := hKernel)
    ∧ quiescent_KernelIdeal (hKernelIdeal := hKernelIdeal)
    ∧ quiescent_KernelIdeal_pre_finite_and_poles (hKernelIdeal := hKernelIdeal) (hPre_finite_and_poles := hPre_finite_and_poles)
    ∧ quiescent_ReferenceIdeal (hReferenceIdeal := hReferenceIdeal)
    ∧ quiescent_ReferenceIdeal_pre_finite_and_poles (hReferenceIdeal := hReferenceIdeal) (hPre_finite_and_poles := hPre_finite_and_poles)
    ∧ preserves_Kernel_KernelIdeal
    ∧ algebraic_KernelIdeal_ReferenceIdeal_pre_finite_and_poles (hKernelIdeal := hKernelIdeal) (hReferenceIdeal := hReferenceIdeal) (hPre_finite_and_poles := hPre_finite_and_poles)
-- ==== Pre_finite_and_poles.lean ====
abbrev S128x512x256 : Shape := ⟨3, ![128, 512, 256]⟩
abbrev S256x256 : Shape := ⟨2, ![256, 256]⟩
abbrev S256 : Shape := ⟨1, ![256]⟩
abbrev S256x64 : Shape := ⟨2, ![256, 64]⟩
abbrev S256x512 : Shape := ⟨2, ![256, 512]⟩
abbrev S512 : Shape := ⟨1, ![512]⟩
abbrev S256x2 : Shape := ⟨2, ![256, 2]⟩
abbrev S2 : Shape := ⟨1, ![2]⟩
abbrev S2x256x256 : Shape := ⟨3, ![2, 256, 256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S256x64 : S_.BroadcastsInDim S256x64 (![] : Fin 0 → Fin S256x64.rank)
  reducesTo_S256x64_S_d0_1 : S256x64.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_

variable [Facts]

def fn_part3 {F : FTy → Type} [FloatOps F] (main_arg6 : FVec F S256x64 .f32) (main_arg7 : FVec F S256x64 .f32) (main_arg18 : FVec F S2x256x256 .f32) (main_v47 : IVec S_ 1) (main_v50 : IVec S256x256 1) : IVec S_ 1 :=
  let main_c_19 : IVec S_ 1 := constantI S_ 1 1#1
  let main_v51 : IVec S_ 1 := (fun x v => Host.reduce IntOp.andi x v reducesTo_S256x256_S_d0_1 h_S_) main_v50 main_c_19
  let main_v52 : IVec S_ 1 := andi main_v47 main_v51
  let main_v53 : FVec F S2x256x256 .f32 := Host.absf main_arg18
  let main_cst_20 : FVec F S_ .f32 := constant S_ .f32 0x7F800000#32
  let main_v54 : FVec F S2x256x256 .f32 := broadcastInDim S2x256x256 ![] bcast_S_S2x256x256 main_cst_20
  let main_v55 : IVec S2x256x256 1 := cmpf .olt main_v53 main_v54
  let main_c_21 : IVec S_ 1 := constantI S_ 1 1#1
  let main_v56 : IVec S_ 1 := (fun x v => Host.reduce IntOp.andi x v reducesTo_S2x256x256_S_d0_1_2 h_S_) main_v55 main_c_21
  let main_v57 : IVec S_ 1 := andi main_v52 main_v56
  let main_cst_22 : FVec F S_ .f32 := constant S_ .f32 0x00000000#32
  let main_v58 : FVec F S256x64 .f32 := broadcastInDim S256x64 ![] bcast_S_S256x64 main_cst_22
  let main_v59 : IVec S256x64 1 := cmpf .une main_arg6 main_v58
  let main_cst_23 : FVec F S_ .f32 := constant S_ .f32 0x00000000#32
  let main_v60 : FVec F S256x64 .f32 := broadcastInDim S256x64 ![] bcast_S_S256x64 main_cst_23
  let main_v61 : IVec S256x64 1 := cmpf .une main_arg7 main_v60
  let main_v62 : IVec S256x64 1 := ori main_v59 main_v61
  let main_c_24 : IVec S_ 1 := constantI S_ 1 1#1
  let main_v63 : IVec S_ 1 := (fun x v => Host.reduce IntOp.andi x v reducesTo_S256x64_S_d0_1 h_S_) main_v62 main_c_24
  let main_v64 : IVec S_ 1 := andi main_v57 main_v63
  main_v64

def fn_part2 {F : FTy → Type} [FloatOps F] (main_arg6 : FVec F S256x64 .f32) (main_arg7 : FVec F S256x64 .f32) (main_arg11 : FVec F S256x512 .f32) (main_arg12 : FVec F S512 .f32) (main_arg15 : FVec F S256x256 .f32) (main_arg18 : FVec F S2x256x256 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x512 .f32 := Host.absf main_arg11
  let main_cst_14 : FVec F S_ .f32 := constant S_ .f32 0x7F800000#32
  let main_v39 : FVec F S256x512 .f32 := broadcastInDim S256x512 ![] bcast_S_S256x512 main_cst_14
  let main_v40 : IVec S256x512 1 := cmpf .olt main_v38 main_v39
  let main_c_15 : IVec S_ 1 := constantI S_ 1 1#1
  let main_v41 : IVec S_ 1 := (fun x v => Host.reduce IntOp.andi x v reducesTo_S256x512_S_d0_1 h_S_) main_v40 main_c_15
  let main_v42 : IVec S_ 1 := andi main_v37 main_v41
  let main_v43 : FVec F S512 .f32 := Host.absf main_arg12
  let main_cst_16 : FVec F S_ .f32 := constant S_ .f32 0x7F800000#32
  let main_v44 : FVec F S512 .f32 := broadcastInDim S512 ![] bcast_S_S512 main_cst_16
  let main_v45 : IVec S512 1 := cmpf .olt main_v43 main_v44
  let main_c_17 : IVec S_ 1 := constantI S_ 1 1#1
  let main_v46 : IVec S_ 1 := (fun x v => Host.reduce IntOp.andi x v reducesTo_S512_S_d0 h_S_) main_v45 main_c_17
  let main_v47 : IVec S_ 1 := andi main_v42 main_v46
  let main_v48 : FVec F S256x256 .f32 := Host.absf main_arg15
  let main_cst_18 : FVec F S_ .f32 := constant S_ .f32 0x7F800000#32
  let main_v49 : FVec F S256x256 .f32 := broadcastInDim S256x256 ![] bcast_S_S256x256 main_cst_18
  let main_v50 : IVec S256x256 1 := cmpf .olt main_v48 main_v49
  fn_part3 (F := F) main_arg6 main_arg7 main_arg18 main_v47 main_v50

def fn_part1 {F : FTy → Type} [FloatOps F] (main_arg6 : FVec F S256x64 .f32) (main_arg7 : FVec F S256x64 .f32) (main_arg8 : FVec F S256x64 .f32) (main_arg9 : FVec F S256x64 .f32) (main_arg10 : FVec F S256 .f32) (main_arg11 : FVec F S256x512 .f32) (main_arg12 : FVec F S512 .f32) (main_arg15 : FVec F S256x256 .f32) (main_arg18 : FVec F S2x256x256 .f32) (main_v12 : IVec S_ 1) (main_v15 : IVec S256x64 1) (main_c_5 : IVec S_ 1) : IVec S_ 1 :=
  let main_v16 : IVec S_ 1 := (fun x v => Host.reduce IntOp.andi x v reducesTo_S256x64_S_d0_1 h_S_) main_v15 main_c_5
  let main_v17 : IVec S_ 1 := andi main_v12 main_v16
  let main_v18 : FVec F S256x64 .f32 := Host.absf main_arg7
  let main_cst_6 : FVec F S_ .f32 := constant S_ .f32 0x7F800000#32
  let main_v19 : FVec F S256x64 .f32 := broadcastInDim S256x64 ![] bcast_S_S256x64 main_cst_6
  let main_v20 : IVec S256x64 1 := cmpf .olt main_v18 main_v19
  let main_c_7 : IVec S_ 1 := constantI S_ 1 1#1
  let main_v21 : IVec S_ 1 := (fun x v => Host.reduce IntOp.andi x v reducesTo_S256x64_S_d0_1 h_S_) main_v20 main_c_7
  let main_v22 : IVec S_ 1 := andi main_v17 main_v21
  let main_v23 : FVec F S256x64 .f32 := Host.absf main_arg8
  let main_cst_8 : FVec F S_ .f32 := constant S_ .f32 0x7F800000#32
  let main_v24 : FVec F S256x64 .f32 := broadcastInDim S256x64 ![] bcast_S_S256x64 main_cst_8
  let main_v25 : IVec S256x64 1 := cmpf .olt main_v23 main_v24
  let main_c_9 : IVec S_ 1 := constantI S_ 1 1#1
  let main_v26 : IVec S_ 1 := (fun x v => Host.reduce IntOp.andi x v reducesTo_S256x64_S_d0_1 h_S_) main_v25 main_c_9
  let main_v27 : IVec S_ 1 := andi main_v22 main_v26
  let main_v28 : FVec F S256x64 .f32 := Host.absf main_arg9
  let main_cst_10 : FVec F S_ .f32 := constant S_ .f32 0x7F800000#32
  let main_v29 : FVec F S256x64 .f32 := broadcastInDim S256x64 ![] bcast_S_S256x64 main_cst_10
  let main_v30 : IVec S256x64 1 := cmpf .olt main_v28 main_v29
  let main_c_11 : IVec S_ 1 := constantI S_ 1 1#1
  let main_v31 : IVec S_ 1 := (fun x v => Host.reduce IntOp.andi x v reducesTo_S256x64_S_d0_1 h_S_) main_v30 main_c_11
  let main_v32 : IVec S_ 1 := andi main_v27 main_v31
  let main_v33 : FVec F S256 .f32 := Host.absf main_arg10
  fn_part2 (F := F) main_arg6 main_arg7 main_arg11 main_arg12 main_arg15 main_arg18 main_v32 main_v33

def fn {F : FTy → Type} [FloatOps F] (main_arg0 : FVec F S128x512x256 .f32) (main_arg1 : FVec F S256x256 .f32) (main_arg2 : FVec F S256 .f32) (main_arg3 : FVec F S256 .f32) (main_arg4 : FVec F S256 .f32) (main_arg5 : FVec F S256 .f32) (main_arg6 : FVec F S256x64 .f32) (main_arg7 : FVec F S256x64 .f32) (main_arg8 : FVec F S256x64 .f32) (main_arg9 : FVec F S256x64 .f32) (main_arg10 : FVec F S256 .f32) (main_arg11 : FVec F S256x512 .f32) (main_arg12 : FVec F S512 .f32) (main_arg13 : FVec F S256x2 .f32) (main_arg14 : FVec F S2 .f32) (main_arg15 : FVec F S256x256 .f32) (main_arg16 : FVec F S256x256 .f32) (main_arg17 : FVec F S256x2 .f32) (main_arg18 : FVec F S2x256x256 .f32) : IVec S_ 1 :=
  let main_v0 : FVec F S256 .f32 := Host.absf main_arg3
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S256 .f32 := Host.absf main_arg4
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_cst_2 : FVec F S_ .f32 := constant S_ .f32 0x7F800000#32
  let main_v9 : FVec F S256 .f32 := broadcastInDim S256 ![] bcast_S_S256 main_cst_2
  let main_v10 : IVec S256 1 := cmpf .olt main_arg5 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_v13 : FVec F S256x64 .f32 := Host.absf main_arg6
  let main_cst_4 : FVec F S_ .f32 := constant S_ .f32 0x7F800000#32
  let main_v14 : FVec F S256x64 .f32 := broadcastInDim S256x64 ![] bcast_S_S256x64 main_cst_4
  let main_v15 : IVec S256x64 1 := cmpf .olt main_v13 main_v14
  let main_c_5 : IVec S_ 1 := constantI S_ 1 1#1
  fn_part1 (F := F) main_arg6 main_arg7 main_arg8 main_arg9 main_arg10 main_arg11 main_arg12 main_arg15 main_arg18 main_v12 main_v15 main_c_5
-- ==== Kernel.lean ====
abbrev S128x512x256 : Shape := ⟨3, ![128, 512, 256]⟩
abbrev S256x256 : Shape := ⟨2, ![256, 256]⟩
abbrev S256 : Shape := ⟨1, ![256]⟩
abbrev S256x64 : Shape := ⟨2, ![256, 64]⟩
abbrev S256x512 : Shape := ⟨2, ![256, 512]⟩
abbrev S512 : Shape := ⟨1, ![512]⟩
abbrev S256x2 : Shape := ⟨2, ![256, 2]⟩
abbrev S2 : Shape := ⟨1, ![2]⟩
abbrev S2x256x256 : Shape := ⟨3, ![2, 256, 256]⟩
abbrev S256x1 : Shape := ⟨2, ![256, 1]⟩
abbrev S_ : Shape := ⟨0, ![]⟩
abbrev S65536x256 : Shape := ⟨2, ![65536, 256]⟩
abbrev S256x65536 : Shape := ⟨2, ![256, 65536]⟩
abbrev S2048x256 : Shape := ⟨2, ![2048, 256]⟩
abbrev S256x2048 : Shape := ⟨2, ![256, 2048]⟩
abbrev S2048 : Shape := ⟨1, ![2048]⟩
abbrev S1x2048 : Shape := ⟨2, ![1, 2048]⟩
abbrev S256x128x512 : Shape := ⟨3, ![256, 128, 512]⟩
abbrev S8x128x512 : Shape := ⟨3, ![8, 128, 512]⟩
abbrev S8x64 : Shape := ⟨2, ![8, 64]⟩
abbrev S8x1 : Shape := ⟨2, ![8, 1]⟩
abbrev S512x512 : Shape := ⟨2, ![512, 512]⟩
abbrev S1x64 : Shape := ⟨2, ![1, 64]⟩
abbrev S2x64 : Shape := ⟨2, ![2, 64]⟩
abbrev S4x64 : Shape := ⟨2, ![4, 64]⟩
abbrev S16x64 : Shape := ⟨2, ![16, 64]⟩
abbrev S32x64 : Shape := ⟨2, ![32, 64]⟩
abbrev S64x64 : Shape := ⟨2, ![64, 64]⟩
abbrev S128x64 : Shape := ⟨2, ![128, 64]⟩
abbrev S512x64 : Shape := ⟨2, ![512, 64]⟩
abbrev S512x128 : Shape := ⟨2, ![512, 128]⟩
abbrev S1x128x512 : Shape := ⟨3, ![1, 128, 512]⟩
abbrev S128x512 : Shape := ⟨2, ![128, 512]⟩
abbrev S1x1 : Shape := ⟨2, ![1, 1]⟩
abbrev S512x1 : Shape := ⟨2, ![512, 1]⟩
abbrev S128x256 : Shape := ⟨2, ![128, 256]⟩
abbrev S256x8x512 : Shape := ⟨3, ![256, 8, 512]⟩
abbrev S8x256 : Shape := ⟨2, ![8, 256]⟩
abbrev S256x4096 : Shape := ⟨2, ![256, 4096]⟩
abbrev S512x4096 : Shape := ⟨2, ![512, 4096]⟩
abbrev S256x8 : Shape := ⟨2, ![256, 8]⟩
abbrev S512x256 : Shape := ⟨2, ![512, 256]⟩
abbrev S1x2 : Shape := ⟨2, ![1, 2]⟩
abbrev S128x2 : Shape := ⟨2, ![128, 2]⟩
abbrev S640x256 : Shape := ⟨2, ![640, 256]⟩
abbrev S640x640 : Shape := ⟨2, ![640, 640]⟩
abbrev S640 : Shape := ⟨1, ![640]⟩
abbrev S640x1 : Shape := ⟨2, ![640, 1]⟩
abbrev S640x128 : Shape := ⟨2, ![640, 128]⟩
abbrev S128x640 : Shape := ⟨2, ![128, 640]⟩

abbrev nBuf : Space → Nat
  | .hbm => 72
  | .vmem => 41
  | .smem => 0
  | _ => 0

abbrev bufTy : (tb : Table) → Fin (tcTables nBuf tb) → BufTy
  | .hbm, ⟨0, _⟩ => ⟨S128x512x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S256x64, .f32⟩
  | .hbm, ⟨10, _⟩ => ⟨S256, .f32⟩
  | .hbm, ⟨11, _⟩ => ⟨S256x512, .f32⟩
  | .hbm, ⟨12, _⟩ => ⟨S512, .f32⟩
  | .hbm, ⟨13, _⟩ => ⟨S256x2, .f32⟩
  | .hbm, ⟨14, _⟩ => ⟨S2, .f32⟩
  | .hbm, ⟨15, _⟩ => ⟨S256x256, .f32⟩
  | .hbm, ⟨16, _⟩ => ⟨S256x256, .f32⟩
  | .hbm, ⟨17, _⟩ => ⟨S256x2, .f32⟩
  | .hbm, ⟨18, _⟩ => ⟨S2x256x256, .f32⟩
  | .hbm, ⟨19, _⟩ => ⟨S256, .f32⟩
  | .hbm, ⟨20, _⟩ => ⟨S256x1, .f32⟩
  | .hbm, ⟨21, _⟩ => ⟨S256x64, .f32⟩
  | .hbm, ⟨22, _⟩ => ⟨S256x64, .f32⟩
  | .hbm, ⟨23, _⟩ => ⟨S256x1, .f32⟩
  | .hbm, ⟨24, _⟩ => ⟨S256x64, .f32⟩
  | .hbm, ⟨25, _⟩ => ⟨S256x64, .f32⟩
  | .hbm, ⟨26, _⟩ => ⟨S256x64, .f32⟩
  | .hbm, ⟨27, _⟩ => ⟨S256x64, .f32⟩
  | .hbm, ⟨28, _⟩ => ⟨S256x64, .f32⟩
  | .hbm, ⟨29, _⟩ => ⟨S256x64, .f32⟩
  | .hbm, ⟨30, _⟩ => ⟨S256x64, .f32⟩
  | .hbm, ⟨31, _⟩ => ⟨S256x64, .f32⟩
  | .hbm, ⟨32, _⟩ => ⟨S256x64, .f32⟩
  | .hbm, ⟨33, _⟩ => ⟨S256x64, .f32⟩
  | .hbm, ⟨34, _⟩ => ⟨S256x64, .f32⟩
  | .hbm, ⟨35, _⟩ => ⟨S256x64, .f32⟩
  | .hbm, ⟨36, _⟩ => ⟨S256x64, .f32⟩
  | .hbm, ⟨37, _⟩ => ⟨S256x64, .f32⟩
  | .hbm, ⟨38, _⟩ => ⟨S_, .f32⟩
  | .hbm, ⟨39, _⟩ => ⟨S256x64, .f32⟩
  | .hbm, ⟨40, _⟩ => ⟨S256x64, .f32⟩
  | .hbm, ⟨41, _⟩ => ⟨S256x64, .f32⟩
  | .hbm, ⟨42, _⟩ => ⟨S256x64, .f32⟩
  | .hbm, ⟨43, _⟩ => ⟨S256x64, .f32⟩
  | .hbm, ⟨44, _⟩ => ⟨S256x64, .f32⟩
  | .hbm, ⟨45, _⟩ => ⟨S256x64, .f32⟩
  | .hbm, ⟨46, _⟩ => ⟨S256x64, .f32⟩
  | .hbm, ⟨47, _⟩ => ⟨S256x64, .f32⟩
  | .hbm, ⟨48, _⟩ => ⟨S256x64, .f32⟩
  | .hbm, ⟨49, _⟩ => ⟨S256x64, .f32⟩
  | .hbm, ⟨50, _⟩ => ⟨S256x64, .f32⟩
  | .hbm, ⟨51, _⟩ => ⟨S256x64, .f32⟩
  | .hbm, ⟨52, _⟩ => ⟨S256x64, .f32⟩
  | .hbm, ⟨53, _⟩ => ⟨S256x64, .f32⟩
  | .hbm, ⟨54, _⟩ => ⟨S256x64, .f32⟩
  | .hbm, ⟨55, _⟩ => ⟨S256x64, .f32⟩
  | .hbm, ⟨56, _⟩ => ⟨S256x64, .f32⟩
  | .hbm, ⟨57, _⟩ => ⟨S256x64, .f32⟩
  | .hbm, ⟨58, _⟩ => ⟨S65536x256, .f32⟩
  | .hbm, ⟨59, _⟩ => ⟨S256x1, .f32⟩
  | .hbm, ⟨60, _⟩ => ⟨S256x1, .f32⟩
  | .hbm, ⟨61, _⟩ => ⟨S256x1, .f32⟩
  | .hbm, ⟨62, _⟩ => ⟨S256x65536, .f32⟩
  | .hbm, ⟨63, _⟩ => ⟨S256x128x512, .f32⟩
  | .hbm, ⟨64, _⟩ => ⟨S256x1, .f32⟩
  | .hbm, ⟨65, _⟩ => ⟨S256x128x512, .f32⟩
  | .hbm, ⟨66, _⟩ => ⟨S512x1, .f32⟩
  | .hbm, ⟨67, _⟩ => ⟨S128x256, .f32⟩
  | .hbm, ⟨68, _⟩ => ⟨S512x256, .f32⟩
  | .hbm, ⟨69, _⟩ => ⟨S1x2, .f32⟩
  | .hbm, ⟨70, _⟩ => ⟨S128x2, .f32⟩
  | .hbm, ⟨71, _⟩ => ⟨S128x2, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | .local _ .vmem, ⟨8, _⟩ => ⟨S8x128x512, .f32⟩
  | .local _ .vmem, ⟨9, _⟩ => ⟨S8x128x512, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S8x64, .f32⟩
  | .local _ .vmem, ⟨14, _⟩ => ⟨S8x64, .f32⟩
  | .local _ .vmem, ⟨15, _⟩ => ⟨S8x64, .f32⟩
  | .local _ .vmem, ⟨16, _⟩ => ⟨S8x64, .f32⟩
  | .local _ .vmem, ⟨17, _⟩ => ⟨S8x64, .f32⟩
  | .local _ .vmem, ⟨18, _⟩ => ⟨S8x64, .f32⟩
  | .local _ .vmem, ⟨19, _⟩ => ⟨S8x64, .f32⟩
  | .local _ .vmem, ⟨20, _⟩ => ⟨S8x64, .f32⟩
  | .local _ .vmem, ⟨21, _⟩ => ⟨S8x64, .f32⟩
  | .local _ .vmem, ⟨22, _⟩ => ⟨S8x1, .f32⟩
  | .local _ .vmem, ⟨23, _⟩ => ⟨S8x1, .f32⟩
  | .local _ .vmem, ⟨24, _⟩ => ⟨S8x128x512, .f32⟩
  | .local _ .vmem, ⟨25, _⟩ => ⟨S8x128x512, .f32⟩
  | .local _ .vmem, ⟨26, _⟩ => ⟨S256x8x512, .f32⟩
  | .local _ .vmem, ⟨27, _⟩ => ⟨S256x8x512, .f32⟩
  | .local _ .vmem, ⟨28, _⟩ => ⟨S256x512, .f32⟩
  | .local _ .vmem, ⟨29, _⟩ => ⟨S512x1, .f32⟩
  | .local _ .vmem, ⟨30, _⟩ => ⟨S8x256, .f32⟩
  | .local _ .vmem, ⟨31, _⟩ => ⟨S8x256, .f32⟩
  | .local _ .vmem, ⟨32, _⟩ => ⟨S128x256, .f32⟩
  | .local _ .vmem, ⟨33, _⟩ => ⟨S512x256, .f32⟩
  | .local _ .vmem, ⟨34, _⟩ => ⟨S256x256, .f32⟩
  | .local _ .vmem, ⟨35, _⟩ => ⟨S256x2, .f32⟩
  | .local _ .vmem, ⟨36, _⟩ => ⟨S1x2, .f32⟩
  | .local _ .vmem, ⟨37, _⟩ => ⟨S256x256, .f32⟩
  | .local _ .vmem, ⟨38, _⟩ => ⟨S256x2, .f32⟩
  | .local _ .vmem, ⟨39, _⟩ => ⟨S128x2, .f32⟩
  | .local _ .vmem, ⟨40, _⟩ => ⟨S128x2, .f32⟩
  | _, _ => ⟨S128x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31
abbrev cc3_sem0_0 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := .none

abbrev stage3_0 : Fin 1 → Memref sig .tc .vmem S128x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S256x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S256x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S128x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S128x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
-- ==== ReferenceIdeal.lean ====
abbrev S128x512x256 : Shape := ⟨3, ![128, 512, 256]⟩
abbrev S256x256 : Shape := ⟨2, ![256, 256]⟩
abbrev S256 : Shape := ⟨1, ![256]⟩
abbrev S256x64 : Shape := ⟨2, ![256, 64]⟩
abbrev S256x512 : Shape := ⟨2, ![256, 512]⟩
abbrev S512 : Shape := ⟨1, ![512]⟩
abbrev S256x2 : Shape := ⟨2, ![256, 2]⟩
abbrev S2 : Shape := ⟨1, ![2]⟩
abbrev S2x256x256 : Shape := ⟨3, ![2, 256, 256]⟩
abbrev S1x1x256 : Shape := ⟨3, ![1, 1, 256]⟩
abbrev S_ : Shape := ⟨0, ![]⟩
abbrev S128x512 : Shape := ⟨2, ![128, 512]⟩
abbrev S128x512x1 : Shape := ⟨3, ![128, 512, 1]⟩
abbrev S256x1 : Shape := ⟨2, ![256, 1]⟩
abbrev S256x64x1 : Shape := ⟨3, ![256, 64, 1]⟩
abbrev S1x1x512 : Shape := ⟨3, ![1, 1, 512]⟩
abbrev S256x64x512 : Shape := ⟨3, ![256, 64, 512]⟩
abbrev S128x256x512 : Shape := ⟨3, ![128, 256, 512]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S256x512x512 : Shape := ⟨3, ![256, 512, 512]⟩
abbrev S256x128x512 : Shape := ⟨3, ![256, 128, 512]⟩
abbrev S1x256x1 : Shape := ⟨3, ![1, 256, 1]⟩
abbrev S128x512x512 : Shape := ⟨3, ![128, 512, 512]⟩
abbrev S128x256 : Shape := ⟨2, ![128, 256]⟩
abbrev S128x2 : Shape := ⟨2, ![128, 2]⟩
abbrev S1x2 : Shape := ⟨2, ![1, 2]⟩
abbrev S512x256 : Shape := ⟨2, ![512, 256]⟩
abbrev S640x256 : Shape := ⟨2, ![640, 256]⟩
abbrev S256x640 : Shape := ⟨2, ![256, 640]⟩
abbrev S640x640 : Shape := ⟨2, ![640, 640]⟩
abbrev S640x10 : Shape := ⟨2, ![640, 10]⟩
abbrev S640 : Shape := ⟨1, ![640]⟩
abbrev S640x1 : Shape := ⟨2, ![640, 1]⟩
abbrev S6400 : Shape := ⟨1, ![6400]⟩
abbrev S1 : Shape := ⟨1, ![1]⟩
abbrev S6400x1 : Shape := ⟨2, ![6400, 1]⟩
abbrev S6400x256 : Shape := ⟨2, ![6400, 256]⟩
abbrev S640x2 : Shape := ⟨2, ![640, 2]⟩

abbrev nBuf : Space → Nat
  | .hbm => 268
  | .vmem => 0
  | .smem => 0
  | _ => 0

abbrev hbmTy0_0 (i : Nat) : BufTy := match i % 128 with
  | 0 => ⟨S128x512x256, .f32⟩
  | 1 => ⟨S256x256, .f32⟩
  | 2 => ⟨S256, .f32⟩
  | 3 => ⟨S256, .f32⟩
  | 4 => ⟨S256, .f32⟩
  | 5 => ⟨S256, .f32⟩
  | 6 => ⟨S256x64, .f32⟩
  | 7 => ⟨S256x64, .f32⟩
  | 8 => ⟨S256x64, .f32⟩
  | 9 => ⟨S256x64, .f32⟩
  | 10 => ⟨S256, .f32⟩
  | 11 => ⟨S256x512, .f32⟩
  | 12 => ⟨S512, .f32⟩
  | 13 => ⟨S256x2, .f32⟩
  | 14 => ⟨S2, .f32⟩
  | 15 => ⟨S256x256, .f32⟩
  | 16 => ⟨S256x256, .f32⟩
  | 17 => ⟨S256x2, .f32⟩
  | 18 => ⟨S2x256x256, .f32⟩
  | 19 => ⟨S128x512x256, .f32⟩
  | 20 => ⟨S1x1x256, .f32⟩
  | 21 => ⟨S128x512x256, .f32⟩
  | 22 => ⟨S128x512x256, .f32⟩
  | 23 => ⟨S_, .f32⟩
  | 24 => ⟨S128x512x256, .f32⟩
  | 25 => ⟨S128x512x256, .f32⟩
  | 26 => ⟨S_, .f32⟩
  | 27 => ⟨S128x512, .f32⟩
  | 28 => ⟨S128x512x1, .f32⟩
  | 29 => ⟨S_, .f32⟩
  | 30 => ⟨S128x512x1, .f32⟩
  | 31 => ⟨S128x512x1, .f32⟩
  | 32 => ⟨S_, .i32⟩
  | 33 => ⟨S_, .f32⟩
  | 34 => ⟨S128x512, .f32⟩
  | 35 => ⟨S128x512x1, .f32⟩
  | 36 => ⟨S_, .f32⟩
  | 37 => ⟨S128x512x1, .f32⟩
  | 38 => ⟨S128x512x1, .f32⟩
  | 39 => ⟨S128x512x256, .f32⟩
  | 40 => ⟨S128x512x256, .f32⟩
  | 41 => ⟨S128x512x256, .f32⟩
  | 42 => ⟨S_, .f32⟩
  | 43 => ⟨S_, .f32⟩
  | 44 => ⟨S_, .f32⟩
  | 45 => ⟨S_, .f32⟩
  | 46 => ⟨S128x512, .f32⟩
  | 47 => ⟨S128x512x1, .f32⟩
  | 48 => ⟨S128x512x1, .f32⟩
  | 49 => ⟨S128x512x1, .f32⟩
  | 50 => ⟨S_, .f32⟩
  | 51 => ⟨S_, .i1⟩
  | 52 => ⟨S_, .f32⟩
  | 53 => ⟨S_, .f32⟩
  | 54 => ⟨S128x512x1, .f32⟩
  | 55 => ⟨S128x512x1, .f32⟩
  | 56 => ⟨S128x512x256, .f32⟩
  | 57 => ⟨S128x512x256, .f32⟩
  | 58 => ⟨S_, .f32⟩
  | 59 => ⟨S128x512x1, .f32⟩
  | 60 => ⟨S128x512x1, .f32⟩
  | 61 => ⟨S128x512x1, .f32⟩
  | 62 => ⟨S128x512x256, .f32⟩
  | 63 => ⟨S128x512x256, .f32⟩
  | 64 => ⟨S1x1x256, .f32⟩
  | 65 => ⟨S128x512x256, .f32⟩
  | 66 => ⟨S128x512x256, .f32⟩
  | 67 => ⟨S1x1x256, .f32⟩
  | 68 => ⟨S128x512x256, .f32⟩
  | 69 => ⟨S128x512x256, .f32⟩
  | 70 => ⟨S256, .f32⟩
  | 71 => ⟨S256x1, .f32⟩
  | 72 => ⟨S256x64, .f32⟩
  | 73 => ⟨S256x64, .f32⟩
  | 74 => ⟨S256x1, .f32⟩
  | 75 => ⟨S256x64, .f32⟩
  | 76 => ⟨S256x64, .f32⟩
  | 77 => ⟨S256x64, .f32⟩
  | 78 => ⟨S256x64, .f32⟩
  | 79 => ⟨S256x64, .f32⟩
  | 80 => ⟨S_, .f32⟩
  | 81 => ⟨S256x64, .f32⟩
  | 82 => ⟨S256x64, .f32⟩
  | 83 => ⟨S256x64, .f32⟩
  | 84 => ⟨S256x64, .f32⟩
  | 85 => ⟨S256x64, .f32⟩
  | 86 => ⟨S256x64, .f32⟩
  | 87 => ⟨S256x64, .f32⟩
  | 88 => ⟨S256x64, .f32⟩
  | 89 => ⟨S256x64, .f32⟩
  | 90 => ⟨S256x64, .f32⟩
  | 91 => ⟨S256x64, .f32⟩
  | 92 => ⟨S256x64, .f32⟩
  | 93 => ⟨S256x64, .f32⟩
  | 94 => ⟨S256x64, .f32⟩
  | 95 => ⟨S256x64, .f32⟩
  | 96 => ⟨S256x64, .f32⟩
  | 97 => ⟨S256x64, .f32⟩
  | 98 => ⟨S256x64, .f32⟩
  | 99 => ⟨S256x64, .f32⟩
  | 100 => ⟨S256x64, .f32⟩
  | 101 => ⟨S256x64, .f32⟩
  | 102 => ⟨S256x64, .f32⟩
  | 103 => ⟨S512, .i32⟩
  | 104 => ⟨S512, .f32⟩
  | 105 => ⟨S256x64x1, .f32⟩
  | 106 => ⟨S1x1x512, .f32⟩
  | 107 => ⟨S256x64x512, .f32⟩
  | 108 => ⟨S256x64x512, .f32⟩
  | 109 => ⟨S256x64x512, .f32⟩
  | 110 => ⟨S256x64x512, .f32⟩
  | 111 => ⟨S256x64x1, .f32⟩
  | 112 => ⟨S1x1x512, .f32⟩
  | 113 => ⟨S256x64x512, .f32⟩
  | 114 => ⟨S256x64x512, .f32⟩
  | 115 => ⟨S256x64x512, .f32⟩
  | 116 => ⟨S256x64x512, .f32⟩
  | 117 => ⟨S256x64x512, .f32⟩
  | 118 => ⟨S256x512, .f32⟩
  | 119 => ⟨S256x64x512, .f32⟩
  | 120 => ⟨S256x64x512, .f32⟩
  | 121 => ⟨S256x512, .f32⟩
  | 122 => ⟨S256x512, .f32⟩
  | 123 => ⟨S_, .f32⟩
  | 124 => ⟨S256x512, .f32⟩
  | 125 => ⟨S256x512, .f32⟩
  | 126 => ⟨S128x256x512, .f32⟩
  | 127 => ⟨S512, .i32⟩
  | _ => ⟨S128x512x256, .f32⟩

abbrev hbmTy0_1 (i : Nat) : BufTy := match i % 128 with
  | 0 => ⟨S512x1, .i32⟩
  | 1 => ⟨S512, .i32⟩
  | 2 => ⟨S1x512, .i32⟩
  | 3 => ⟨S512x512, .i32⟩
  | 4 => ⟨S512x512, .i32⟩
  | 5 => ⟨S512x512, .i32⟩
  | 6 => ⟨S_, .i32⟩
  | 7 => ⟨S512x512, .i32⟩
  | 8 => ⟨S512x512, .i1⟩
  | 9 => ⟨S_, .i32⟩
  | 10 => ⟨S512x512, .i32⟩
  | 11 => ⟨S512x512, .i32⟩
  | 12 => ⟨S_, .i32⟩
  | 13 => ⟨S512x512, .i32⟩
  | 14 => ⟨S512x512, .i1⟩
  | 15 => ⟨S_, .i32⟩
  | 16 => ⟨S512x512, .i32⟩
  | 17 => ⟨S512x512, .i32⟩
  | 18 => ⟨S512x512, .i32⟩
  | 19 => ⟨S512x512x1, .i32⟩
  | 20 => ⟨S256x512x512, .f32⟩
  | 21 => ⟨S_, .f32⟩
  | 22 => ⟨S_, .f32⟩
  | 23 => ⟨S256x512x512, .i1⟩
  | 24 => ⟨S256x512x512, .f32⟩
  | 25 => ⟨S256x512x512, .f32⟩
  | 26 => ⟨S256x128x512, .f32⟩
  | 27 => ⟨S128x256x512, .f32⟩
  | 28 => ⟨S1x256x1, .f32⟩
  | 29 => ⟨S128x256x512, .f32⟩
  | 30 => ⟨S128x256x512, .f32⟩
  | 31 => ⟨S128x256x512, .f32⟩
  | 32 => ⟨S128x256x512, .f32⟩
  | 33 => ⟨S128x256x512, .f32⟩
  | 34 => ⟨S_, .f32⟩
  | 35 => ⟨S128x256x512, .f32⟩
  | 36 => ⟨S128x256x512, .f32⟩
  | 37 => ⟨S128x256x512, .f32⟩
  | 38 => ⟨S_, .f32⟩
  | 39 => ⟨S128x256x512, .f32⟩
  | 40 => ⟨S128x256x512, .f32⟩
  | 41 => ⟨S128x256x512, .f32⟩
  | 42 => ⟨S_, .f32⟩
  | 43 => ⟨S128x256x512, .f32⟩
  | 44 => ⟨S128x256x512, .f32⟩
  | 45 => ⟨S_, .f32⟩
  | 46 => ⟨S128x256x512, .f32⟩
  | 47 => ⟨S128x256x512, .f32⟩
  | 48 => ⟨S128x256x512, .f32⟩
  | 49 => ⟨S128x512x256, .f32⟩
  | 50 => ⟨S128x512x512, .f32⟩
  | 51 => ⟨S1x1x512, .f32⟩
  | 52 => ⟨S128x512x512, .f32⟩
  | 53 => ⟨S128x512x512, .f32⟩
  | 54 => ⟨S128x512x256, .f32⟩
  | 55 => ⟨S128x512x256, .f32⟩
  | 56 => ⟨S128x512x256, .f32⟩
  | 57 => ⟨S128x512x256, .f32⟩
  | 58 => ⟨S_, .f32⟩
  | 59 => ⟨S128x512x256, .f32⟩
  | 60 => ⟨S128x512x256, .f32⟩
  | 61 => ⟨S_, .f32⟩
  | 62 => ⟨S128x512x256, .f32⟩
  | 63 => ⟨S128x512x256, .f32⟩
  | 64 => ⟨S128x512x256, .f32⟩
  | 65 => ⟨S_, .f32⟩
  | 66 => ⟨S128x256, .f32⟩
  | 67 => ⟨S128x2, .f32⟩
  | 68 => ⟨S1x2, .f32⟩
  | 69 => ⟨S128x2, .f32⟩
  | 70 => ⟨S128x2, .f32⟩
  | 71 => ⟨S512x256, .f32⟩
  | 72 => ⟨S640x256, .f32⟩
  | 73 => ⟨S640x256, .f32⟩
  | 74 => ⟨S256x640, .f32⟩
  | 75 => ⟨S640x640, .f32⟩
  | 76 => ⟨S640x10, .f32⟩
  | 77 => ⟨S640x10, .i32⟩
  | 78 => ⟨S_, .f32⟩
  | 79 => ⟨S640, .f32⟩
  | 80 => ⟨S_, .f32⟩
  | 81 => ⟨S640, .f32⟩
  | 82 => ⟨S640, .f32⟩
  | 83 => ⟨S640x1, .f32⟩
  | 84 => ⟨S640x10, .f32⟩
  | 85 => ⟨S640x10, .f32⟩
  | 86 => ⟨S640x10, .f32⟩
  | 87 => ⟨S_, .f32⟩
  | 88 => ⟨S640, .f32⟩
  | 89 => ⟨S640x1, .f32⟩
  | 90 => ⟨S640x10, .f32⟩
  | 91 => ⟨S640x10, .f32⟩
  | 92 => ⟨S6400, .i32⟩
  | 93 => ⟨S640, .i32⟩
  | 94 => ⟨S640x10, .i32⟩
  | 95 => ⟨S6400, .i32⟩
  | 96 => ⟨S6400, .f32⟩
  | 97 => ⟨S_, .f32⟩
  | 98 => ⟨S640x256, .f32⟩
  | 99 => ⟨S_, .i32⟩
  | 100 => ⟨S1, .i32⟩
  | 101 => ⟨S640x256, .f32⟩
  | 102 => ⟨S_, .i32⟩
  | 103 => ⟨S6400, .i32⟩
  | 104 => ⟨S6400, .i1⟩
  | 105 => ⟨S_, .i32⟩
  | 106 => ⟨S6400, .i32⟩
  | 107 => ⟨S6400, .i32⟩
  | 108 => ⟨S6400, .i32⟩
  | 109 => ⟨S6400x1, .i32⟩
  | 110 => ⟨S6400x256, .f32⟩
  | 111 => ⟨S6400x1, .f32⟩
  | 112 => ⟨S6400x256, .f32⟩
  | 113 => ⟨S6400x256, .f32⟩
  | 114 => ⟨S_, .f32⟩
  | 115 => ⟨S640x256, .f32⟩
  | 116 => ⟨S6400x1, .i32⟩
  | 117 => ⟨S640x256, .f32⟩
  | 118 => ⟨S640x256, .f32⟩
  | 119 => ⟨S_, .f32⟩
  | 120 => ⟨S640x256, .f32⟩
  | 121 => ⟨S640x256, .f32⟩
  | 122 => ⟨S_, .i32⟩
  | 123 => ⟨S6400, .i32⟩
  | 124 => ⟨S6400, .i1⟩
  | 125 => ⟨S_, .i32⟩
  | 126 => ⟨S6400, .i32⟩
  | 127 => ⟨S6400, .i32⟩
  | _ => ⟨S128x512x256, .f32⟩

abbrev hbmTy0_2 (i : Nat) : BufTy := match i % 128 with
  | 0 => ⟨S6400, .i32⟩
  | 1 => ⟨S6400x1, .i32⟩
  | 2 => ⟨S6400x256, .f32⟩
  | 3 => ⟨S6400x1, .f32⟩
  | 4 => ⟨S6400x256, .f32⟩
  | 5 => ⟨S6400x256, .f32⟩
  | 6 => ⟨S_, .f32⟩
  | 7 => ⟨S640x256, .f32⟩
  | 8 => ⟨S6400x1, .i32⟩
  | 9 => ⟨S640x256, .f32⟩
  | 10 => ⟨S640x2, .f32⟩
  | 11 => ⟨S128x2, .f32⟩
  | _ => ⟨S128x512x256, .f32⟩

abbrev hbmTy (i : Nat) : BufTy := match i / 128 with
  | 0 => hbmTy0_0 i
  | 1 => hbmTy0_1 i
  | 2 => hbmTy0_2 i
  | _ => ⟨S128x512x256, .f32⟩

abbrev bufTy : (tb : Table) → Fin (tcTables nBuf tb) → BufTy
  | .hbm, ⟨i, _⟩ => hbmTy i
  | _, _ => ⟨S128x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_2 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_3 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_4 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_5 : Ref sig .tc := ⟨.hbm, 134, rfl⟩
abbrev main_v86 : Ref sig .tc := ⟨.hbm, 135, rfl⟩
abbrev main_v87 : Ref sig .tc := ⟨.hbm, 136, rfl⟩
abbrev main_c_6 : Ref sig .tc := ⟨.hbm, 137, rfl⟩
abbrev main_v88 : Ref sig .tc := ⟨.hbm, 138, rfl⟩
abbrev main_v89 : Ref sig .tc := ⟨.hbm, 139, rfl⟩
abbrev main_c_7 : Ref sig .tc := ⟨.hbm, 140, rfl⟩
abbrev main_v90 : Ref sig .tc := ⟨.hbm, 141, rfl⟩
abbrev main_v91 : Ref sig .tc := ⟨.hbm, 142, rfl⟩
abbrev main_c_8 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_9 : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_10 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_11 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_12 : Ref sig .tc := ⟨.hbm, 170, rfl⟩
abbrev main_v112 : Ref sig .tc := ⟨.hbm, 171, rfl⟩
abbrev main_v113 : Ref sig .tc := ⟨.hbm, 172, rfl⟩
abbrev main_cst_13 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_14 : Ref sig .tc := ⟨.hbm, 186, rfl⟩
abbrev main_v126 : Ref sig .tc := ⟨.hbm, 187, rfl⟩
abbrev main_v127 : Ref sig .tc := ⟨.hbm, 188, rfl⟩
abbrev main_cst_15 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_16 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_values : Ref sig .tc := ⟨.hbm, 204, rfl⟩
abbrev main_indices : Ref sig .tc := ⟨.hbm, 205, rfl⟩
abbrev main_cst_17 : Ref sig .tc := ⟨.hbm, 206, rfl⟩
abbrev main_v141 : Ref sig .tc := ⟨.hbm, 207, rfl⟩
abbrev main_cst_18 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_cst_19 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_20 : Ref sig .tc := ⟨.hbm, 225, rfl⟩
abbrev main_v157 : Ref sig .tc := ⟨.hbm, 226, rfl⟩
abbrev main_c_21 : Ref sig .tc := ⟨.hbm, 227, rfl⟩
abbrev main_v158 : Ref sig .tc := ⟨.hbm, 228, rfl⟩
abbrev main_v159 : Ref sig .tc := ⟨.hbm, 229, rfl⟩
abbrev main_c_22 : Ref sig .tc := ⟨.hbm, 230, rfl⟩
abbrev main_v160 : Ref sig .tc := ⟨.hbm, 231, rfl⟩
abbrev main_v161 : Ref sig .tc := ⟨.hbm, 232, rfl⟩
abbrev main_c_23 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_cst_24 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_cst_25 : Ref sig .tc := ⟨.hbm, 247, rfl⟩
abbrev main_v174 : Ref sig .tc := ⟨.hbm, 248, rfl⟩
abbrev main_v175 : Ref sig .tc := ⟨.hbm, 249, rfl⟩
abbrev main_c_26 : Ref sig .tc := ⟨.hbm, 250, rfl⟩
abbrev main_v176 : Ref sig .tc := ⟨.hbm, 251, rfl⟩
abbrev main_v177 : Ref sig .tc := ⟨.hbm, 252, rfl⟩
abbrev main_c_27 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_cst_28 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩

abbrev nD : Nat := 1
abbrev τ : Topo := Topo.v7x

variable {F : FTy → Type} [FloatOps F]
-- ==== Proof.Defs2.lean ====
/- The mathematics' own words: the stages of the network over the extended reals, at coordinates. -/
module

public import Idealize.ShloMosaic.Lib.Pointwise

@[expose] public section

set_option maxRecDepth 16384
noncomputable section
open Idealize.ShloMosaic
namespace Net

/-- The f32 constant 256. -/
def c256 : EReal := Ideal.ofBits FTy.f32 1132462080#32
/-- The f32 constant nearest 1e-5. -/
def cEps : EReal := Ideal.ofBits FTy.f32 925353388#32

/-- One row through the first linear layer and the ReLU. -/
def act (x : Fin 256 → EReal) (w : Fin 256 → Fin 256 → EReal) (b : Fin 256 → EReal) (h : Fin 256) : EReal :=
  max (∑ k, x k * w k h + b h) 0
/-- The mean of a row of 256. -/
def meanOf (f : Fin 256 → EReal) : EReal := Ideal.div (∑ j, f j) c256
/-- The variance of a row of 256. -/
def varOf (f : Fin 256 → EReal) : EReal := Ideal.div (∑ j, (f j - meanOf f) * (f j - meanOf f)) c256
/-- LayerNorm as the kernel does it: times the reciprocal root. -/
def lnK (f : Fin 256 → EReal) (g be : EReal) (h : Fin 256) : EReal :=
  (f h - meanOf f) * Ideal.rsqrt (varOf f + cEps) * g + be
/-- LayerNorm as the reference does it: over the root. -/
def lnR (f : Fin 256 → EReal) (g be : EReal) (h : Fin 256) : EReal :=
  Ideal.div (f h - meanOf f) (Ideal.sqrt (varOf f + cEps)) * g + be

/-- A column of the output layer's first half. -/
def lo (h : Fin 256) : Fin 512 := ⟨h.val, by omega⟩
/-- A column of the output layer's second half. -/
def hi (h : Fin 256) : Fin 512 := ⟨256 + h.val, by omega⟩

end Net
-- ==== Proof.Reals.lean ====
/- Facts about finite extended reals: closure, the constants the programs name, the two spellings of the normalisation. -/
module

public import proofs.«01_k».proof.Proof.Defs2

@[expose] public section

set_option maxRecDepth 16384
noncomputable section
open Idealize.ShloMosaic
open scoped BigOperators
namespace Net

/-- A finite extended real. -/
def IsR (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace IsR
theorem coe (r : ℝ) : IsR (r : EReal) := ⟨r, rfl⟩
theorem zero : IsR 0 := ⟨0, rfl⟩
theorem one : IsR 1 := ⟨1, rfl⟩
theorem of_ne {x : EReal} (h : x ≠ ⊥) (h' : x ≠ ⊤) : IsR x := ⟨x.toReal, (EReal.coe_toReal h' h).symm⟩
theorem add {x y : EReal} : IsR x → IsR y → IsR (x + y) := by
  rintro ⟨a, rfl⟩ ⟨b, rfl⟩; exact ⟨a + b, by rw [EReal.coe_add]⟩
theorem sub {x y : EReal} : IsR x → IsR y → IsR (x - y) := by
  rintro ⟨a, rfl⟩ ⟨b, rfl⟩; exact ⟨a - b, by rw [EReal.coe_sub]⟩
theorem mul {x y : EReal} : IsR x → IsR y → IsR (x * y) := by
  rintro ⟨a, rfl⟩ ⟨b, rfl⟩; exact ⟨a * b, by rw [EReal.coe_mul]⟩
theorem neg {x : EReal} : IsR x → IsR (-x) := by
  rintro ⟨a, rfl⟩; exact ⟨-a, by rw [EReal.coe_neg]⟩
theorem max {x y : EReal} (hx : IsR x) (hy : IsR y) : IsR (max x y) := by
  rcases max_choice x y with h | h <;> rw [h] <;> assumption
theorem sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩
theorem exp {x : EReal} : IsR x → IsR (Ideal.exp x) := by
  rintro ⟨a, rfl⟩; exact ⟨Real.exp a, rfl⟩
/-- The exponential is finite below the top, and zero at the bottom. -/
theorem exp_lt {x : EReal} (h : x < ⊤) : IsR (Ideal.exp x) := by
  by_cases hb : x = ⊥
  · rw [hb]; exact zero
  · exact (of_ne hb h.ne).exp
theorem tanh {x : EReal} : IsR x → IsR (Ideal.tanh x) := by
  rintro ⟨a, rfl⟩; exact ⟨Real.tanh a, rfl⟩
theorem logistic {x : EReal} : IsR x → IsR (Ideal.logistic x) := by
  rintro ⟨a, rfl⟩
  have hp : (0 : ℝ) < 1 + Real.exp (-a) := by positivity
  refine ⟨1 * (1 + Real.exp (-a))⁻¹, ?_⟩
  show Ideal.div 1 (1 + ((Real.exp (-a) : ℝ) : EReal)) = _
  have e : (1 : EReal) + ((Real.exp (-a) : ℝ) : EReal) = ((1 + Real.exp (-a) : ℝ) : EReal) := by rw [EReal.coe_add]; rfl
  rw [e, Ideal.div, if_neg (by exact_mod_cast hp.ne'), EReal.coe_mul, EReal.coe_inv]; rfl
theorem ne_bot {x : EReal} : IsR x → x ≠ ⊥ := by rintro ⟨a, rfl⟩; exact EReal.coe_ne_bot a
theorem ne_top {x : EReal} : IsR x → x ≠ ⊤ := by rintro ⟨a, rfl⟩; exact EReal.coe_ne_top a
theorem of_abs {x : EReal} (h : Max.max x (-x) < ⊤) : IsR x := by
  refine of_ne ?_ ?_
  · rintro rfl; simp at h
  · rintro rfl; simp at h
end IsR

/-- A maximum over a nonempty range, folded from the bottom, is one of the entries. -/
theorem fold_max_eq {n : Nat} (hn : 0 < n) (f : Fin n → EReal) : ∃ j, Finset.fold Max.max (⊥ : EReal) f Finset.univ = f j ∧ ∀ i, f i ≤ f j := by
  haveI : Nonempty (Fin n) := ⟨⟨0, hn⟩⟩
  obtain ⟨j, hj⟩ := Finite.exists_max f
  refine ⟨j, le_antisymm ?_ ?_, hj⟩
  · exact (Finset.fold_max_le _).mpr ⟨bot_le, fun i _ => hj i⟩
  · exact (Finset.le_fold_max _).mpr (Or.inr ⟨j, Finset.mem_univ _, le_refl _⟩)

theorem negInf_eq : Ideal.ofBits FTy.f32 4286578688#32 = ⊥ := by simp [Ideal.ofBits, Ideal.ieee]
theorem posInf_eq : Ideal.ofBits FTy.f32 2139095040#32 = ⊤ := by simp [Ideal.ofBits, Ideal.ieee]
theorem c256_eq : c256 = ((256 : ℝ) : EReal) := by
  unfold c256; simp [Ideal.ofBits, Ideal.ieee, -EReal.coe_mul]; norm_num
theorem cEps_eq : cEps = ((10995116 / 2 ^ 40 : ℝ) : EReal) := by
  unfold cEps; simp [Ideal.ofBits, Ideal.ieee, -EReal.coe_mul]; norm_num
theorem two_eq : Ideal.ofBits FTy.f32 1073741824#32 = ((2 : ℝ) : EReal) := by
  simp [Ideal.ofBits, Ideal.ieee, -EReal.coe_mul]; norm_num
theorem half_eq : Ideal.ofBits FTy.f32 1056964608#32 = ((1 / 2 : ℝ) : EReal) := by
  simp [Ideal.ofBits, Ideal.ieee, -EReal.coe_mul]; norm_num
theorem g1_eq : Ideal.ofBits FTy.f32 1061962282#32 = ((13386282 / 2 ^ 24 : ℝ) : EReal) := by
  simp [Ideal.ofBits, Ideal.ieee, -EReal.coe_mul]; norm_num
theorem g2_eq : Ideal.ofBits FTy.f32 1027024659#32 = ((12003091 / 2 ^ 28 : ℝ) : EReal) := by
  simp [Ideal.ofBits, Ideal.ieee, -EReal.coe_mul]; norm_num

theorem div_coe (a b : ℝ) (hb : b ≠ 0) : Ideal.div (a : EReal) (b : EReal) = ((a / b : ℝ) : EReal) := by
  rw [Ideal.div, if_neg (by exact_mod_cast hb), div_eq_mul_inv, EReal.coe_mul, EReal.coe_inv]

/-- A square is not negative, on all extended reals. -/
theorem sq_nonneg (x : EReal) : 0 ≤ x * x := by
  rcases le_total 0 x with h | h
  · exact mul_nonneg h h
  · rw [← neg_mul_neg]
    have h' : 0 ≤ -x := by rw [EReal.neg_nonneg]; exact h
    exact mul_nonneg h' h'

/-- A row whose square is below the top is finite. -/
theorem isR_of_sq {x : EReal} (h : x * x ≠ ⊤) : IsR x := by
  refine IsR.of_ne ?_ ?_
  · rintro rfl; exact h (by simp)
  · rintro rfl; exact h (by simp)

/-- The variance of any row is the top, or a real number that is not negative over a row of finite deviations. -/
theorem varOf_cases (f : Fin 256 → EReal) : varOf f = ⊤ ∨ ∃ v : ℝ, 0 ≤ v ∧ varOf f = (v : EReal) ∧ ∀ j, IsR (f j - meanOf f) := by
  have h0 : (0 : EReal) ≤ ∑ j, (f j - meanOf f) * (f j - meanOf f) := Finset.sum_nonneg fun j _ => sq_nonneg _
  have hj : ∀ j, (f j - meanOf f) * (f j - meanOf f) ≤ ∑ j, (f j - meanOf f) * (f j - meanOf f) := fun j =>
    Finset.single_le_sum (f := fun j => (f j - meanOf f) * (f j - meanOf f)) (fun j _ => sq_nonneg _) (Finset.mem_univ j)
  unfold varOf
  generalize (∑ j, (f j - meanOf f) * (f j - meanOf f)) = s at h0 hj
  by_cases ht : s = ⊤
  · left
    rw [ht, c256_eq, Ideal.div, if_neg (by norm_num), ← EReal.coe_inv]
    exact EReal.top_mul_coe_of_pos (by norm_num)
  · right
    obtain ⟨r, rfl⟩ := IsR.of_ne (ne_bot_of_le_ne_bot (by simp) h0) ht
    exact ⟨r / 256, div_nonneg (by exact_mod_cast h0) (by norm_num), by rw [c256_eq, div_coe _ _ (by norm_num)],
      fun j => isR_of_sq (ne_top_of_le_ne_top ht (hj j))⟩

theorem sqrt_top : Ideal.sqrt ⊤ = ⊤ := rfl
theorem rsqrt_top : Ideal.rsqrt ⊤ = 0 := rfl
theorem div_top (x : EReal) : Ideal.div x ⊤ = 0 := by rw [Ideal.div, if_neg (by simp), EReal.inv_top, mul_zero]
theorem top_eps : (⊤ : EReal) + cEps = ⊤ := by rw [cEps_eq]; exact EReal.top_add_coe _

/-- Multiplying by the reciprocal square root and dividing by the square root are the same, whatever the row holds. -/
theorem lnK_eq_lnR (f : Fin 256 → EReal) (g be : EReal) (j : Fin 256) : lnK f g be j = lnR f g be j := by
  unfold lnK lnR
  rcases varOf_cases f with e | ⟨v, hv, e, -⟩
  · rw [e, top_eps, sqrt_top, rsqrt_top, div_top, mul_zero]
  have hp : (0 : ℝ) < v + 10995116 / 2 ^ 40 := by positivity
  have hs : Real.sqrt (v + 10995116 / 2 ^ 40) ≠ 0 := (Real.sqrt_pos.mpr hp).ne'
  rw [e, cEps_eq, ← EReal.coe_add]
  congr 2
  rw [show Ideal.rsqrt ((v + 10995116 / 2 ^ 40 : ℝ) : EReal) = if v + 10995116 / 2 ^ 40 < 0 then ⊥ else if v + 10995116 / 2 ^ 40 = 0 then ⊤ else (((Real.sqrt (v + 10995116 / 2 ^ 40))⁻¹ : ℝ) : EReal) from rfl,
    show Ideal.sqrt ((v + 10995116 / 2 ^ 40 : ℝ) : EReal) = if v + 10995116 / 2 ^ 40 < 0 then ⊥ else ((Real.sqrt (v + 10995116 / 2 ^ 40) : ℝ) : EReal) from rfl,
    if_neg hp.not_gt, if_neg hp.ne', if_neg hp.not_gt, Ideal.div, if_neg (by exact_mod_cast hs), EReal.coe_inv]

/-- A normalised row is finite, whatever the row holds: over an infinite root every deviation gives zero. -/
theorem lnR_isR (f : Fin 256 → EReal) {g be : EReal} (hg : IsR g) (hbe : IsR be) (j : Fin 256) : IsR (lnR f g be j) := by
  unfold lnR
  refine IsR.add (IsR.mul ?_ hg) hbe
  rcases varOf_cases f with e | ⟨v, hv, e, hd⟩
  · rw [e, top_eps, sqrt_top, div_top]; exact IsR.zero
  have hp : (0 : ℝ) < v + 10995116 / 2 ^ 40 := by positivity
  have hs : Real.sqrt (v + 10995116 / 2 ^ 40) ≠ 0 := (Real.sqrt_pos.mpr hp).ne'
  obtain ⟨a, ha⟩ := hd j
  rw [e, cEps_eq, ← EReal.coe_add, ha,
    show Ideal.sqrt ((v + 10995116 / 2 ^ 40 : ℝ) : EReal) = if v + 10995116 / 2 ^ 40 < 0 then ⊥ else ((Real.sqrt (v + 10995116 / 2 ^ 40) : ℝ) : EReal) from rfl,
    if_neg hp.not_gt, div_coe _ _ hs]
  exact IsR.coe _

/-- The smooth rectifier, in the tanh form. -/
def gelu (x : EReal) : EReal :=
  x * (Ideal.ofBits FTy.f32 1056964608#32 * (1 + Ideal.tanh (Ideal.ofBits FTy.f32 1061962282#32 * (x + Ideal.ofBits FTy.f32 1027024659#32 * (x * (x * x))))))

theorem gelu_isR {x : EReal} (h : IsR x) : IsR (gelu x) := by
  unfold gelu; rw [half_eq, g1_eq, g2_eq]
  exact h.mul ((IsR.coe _).mul (IsR.one.add (IsR.tanh ((IsR.coe _).mul (h.add ((IsR.coe _).mul (h.mul (h.mul h))))))))
end Net
-- ==== Proof.Ranks.lean ====
/- Choosing the largest entries of a row one after another, against the row's order. -/
module

public import proofs.«01_k».proof.Proof.Reals

@[expose] public section

set_option maxRecDepth 16384
noncomputable section
open Idealize.ShloMosaic
open scoped BigOperators
namespace Net

/-- A sample as a node of the graph. -/
def node (i : Fin 128) : Fin 640 := ⟨i.val, by omega⟩
/-- One of the ten neighbours' ranks among all. -/
def rk (k : Fin 10) : Fin 640 := ⟨k.val, by omega⟩

/-- `p` lists the places of the row `f` from the largest entry down, equal entries by place. -/
structure Ranks (f : Fin 640 → EReal) (p : Fin 640 → Fin 640) : Prop where
  bij : Function.Bijective p
  ord : ∀ a b, a < b → f (p b) < f (p a) ∨ (f (p b) = f (p a) ∧ p a < p b)
  bot : ∀ j, f j ≠ ⊥

/-- The row with its first `k` ranks struck out. -/
def left (f : Fin 640 → EReal) (p : Fin 640 → Fin 640) (k : Nat) (j : Fin 640) : EReal :=
  open Classical in if ∃ a : Fin 640, a.val < k ∧ p a = j then ⊥ else f j

/-- The sum of the ten exponentials. -/
def total (f : Fin 640 → EReal) (p : Fin 640 → Fin 640) : EReal := ∑ k : Fin 10, Ideal.exp (f (p (rk k)) - f (p 0))
/-- A neighbour's weight. -/
def wgt (f : Fin 640 → EReal) (p : Fin 640 → Fin 640) (k : Fin 10) : EReal := Ideal.div (Ideal.exp (f (p (rk k)) - f (p 0))) (total f p)

variable {f : Fin 640 → EReal} {p : Fin 640 → Fin 640}

theorem left_zero (j : Fin 640) : left f p 0 j = f j := by
  unfold left; rw [if_neg]; rintro ⟨a, h, _⟩; omega

theorem left_all (hp : Ranks f p) {k : Nat} (hk : ¬ k < 640) (j : Fin 640) : left f p k j = ⊥ := by
  obtain ⟨a, rfl⟩ := hp.bij.2 j
  unfold left; rw [if_pos ⟨a, by have := a.isLt; omega, rfl⟩]

/-- A comparison for equality, chosen by. -/
theorem select_eq {α : Type} (a b : Fin 640) (x y : α) :
    Scalar.select (IntOp.cmpi CmpIPredicate.eq (BitVec.ofNat 32 a.val) (BitVec.ofNat 32 b.val)) x y = if a = b then x else y := by
  have e : (BitVec.ofNat 32 a.val = BitVec.ofNat 32 b.val) ↔ a = b := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  unfold Scalar.select
  by_cases h : a = b
  · subst h; simp [IntOp.cmpi]
  · rw [if_neg h, if_neg]
    intro h'
    refine h (e.mp ?_)
    by_contra hne
    have hb : (BitVec.ofNat 32 a.val == BitVec.ofNat 32 b.val) = false := beq_eq_false_iff_ne.mpr hne
    simp [IntOp.cmpi, hb] at h'

theorem left_succ {k : Nat} (hk : k < 640) (j : Fin 640) :
    Scalar.select (IntOp.cmpi CmpIPredicate.eq (BitVec.ofNat 32 j.val) (BitVec.ofNat 32 (p ⟨k, hk⟩).val)) (⊥ : EReal) (left f p k j) = left f p (k + 1) j := by
  rw [select_eq]
  unfold left
  by_cases h : j = p ⟨k, hk⟩
  · rw [if_pos h, if_pos ⟨⟨k, hk⟩, Nat.lt_succ_self k, h.symm⟩]
  · rw [if_neg h]
    congr 1
    apply propext
    constructor
    · rintro ⟨a, ha, e⟩; exact ⟨a, by omega, e⟩
    · rintro ⟨a, ha, e⟩
      refine ⟨a, ?_, e⟩
      rcases Nat.lt_succ_iff_lt_or_eq.mp ha with h' | h'
      · exact h'
      · exact absurd (by rw [← e]; exact congrArg p (Fin.ext h')) h

namespace Ranks

theorem le (hp : Ranks f p) {a b : Fin 640} (h : a ≤ b) : f (p b) ≤ f (p a) := by
  rcases h.lt_or_eq with h | h
  · rcases hp.ord a b h with h' | h'
    · exact h'.le
    · exact h'.1.le
  · rw [h]

/-- The largest remaining entry is rank `k`'s. -/
theorem fold_left (hp : Ranks f p) {k : Nat} (hk : k < 640) : Finset.fold Max.max (⊥ : EReal) (left f p k) Finset.univ = f (p ⟨k, hk⟩) := by
  apply le_antisymm
  · refine (Finset.fold_max_le _).mpr ⟨bot_le, fun j _ => ?_⟩
    unfold left
    split
    · exact bot_le
    · rename_i h
      obtain ⟨b, rfl⟩ := hp.bij.2 j
      refine hp.le ?_
      by_contra hb
      exact h ⟨b, by rw [not_le] at hb; exact hb, rfl⟩
  · refine (Finset.le_fold_max _).mpr (Or.inr ⟨p ⟨k, hk⟩, Finset.mem_univ _, ?_⟩)
    unfold left
    rw [if_neg]
    rintro ⟨a, ha, e⟩
    have := hp.bij.1 e
    subst this
    exact absurd ha (Nat.lt_irrefl k)

/-- The least of some words, signed: the one that is below all the others. -/
theorem _root_.Net.fold_minsi {ι : Type} [DecidableEq ι] (s : Finset ι) (g : ι → BitVec 32) (b v : BitVec 32)
    (hb : v.toInt ≤ b.toInt) (hg : ∀ x ∈ s, v.toInt ≤ (g x).toInt) (hv : ∃ x ∈ s, g x = v) : Finset.fold IntOp.minsi b g s = v := by
  have e : ∀ x y : BitVec 32, IntOp.minsi x y = x ∧ x.toInt ≤ y.toInt ∨ IntOp.minsi x y = y ∧ y.toInt ≤ x.toInt := by
    intro x y
    unfold IntOp.minsi
    split <;> rename_i h <;> simp only [BitVec.slt, BitVec.sle, decide_eq_true_eq] at h <;> simp <;> omega
  have lo : v.toInt ≤ (Finset.fold IntOp.minsi b g s).toInt := by
    clear hv
    induction s using Finset.induction_on with
    | empty => simpa using hb
    | insert a s ha ih =>
      rw [Finset.fold_insert ha]
      have h1 := ih fun x hx => hg x (Finset.mem_insert_of_mem hx)
      have h2 := hg a (Finset.mem_insert_self a s)
      rcases e (g a) (Finset.fold IntOp.minsi b g s) with h | h <;> rw [h.1] <;> assumption
  have hi : ∀ x ∈ s, (Finset.fold IntOp.minsi b g s).toInt ≤ (g x).toInt := by
    clear hv lo hg
    induction s using Finset.induction_on with
    | empty => simp
    | insert a s ha ih =>
      intro x hx
      rw [Finset.fold_insert ha]
      rcases Finset.mem_insert.mp hx with rfl | hx
      · rcases e (g x) (Finset.fold IntOp.minsi b g s) with h | h <;> rw [h.1]
        exact h.2
      · have := ih x hx
        rcases e (g a) (Finset.fold IntOp.minsi b g s) with h | h <;> rw [h.1]
        · exact h.2.trans this
        · exact this
  obtain ⟨x, hx, rfl⟩ := hv
  exact BitVec.eq_of_toInt_eq (le_antisymm (hi x hx) lo)

theorem _root_.Net.toInt_ofNat {n : Nat} (h : n < 2 ^ 31) : (BitVec.ofNat 32 n).toInt = n := by
  rw [BitVec.toInt_eq_toNat_of_lt] <;> rw [BitVec.toNat_ofNat, Nat.mod_eq_of_lt (by omega)]
  omega

/-- The first place holding the largest remaining entry is rank `k`'s. -/
theorem fold_min (hp : Ranks f p) {k : Nat} (hk : k < 640) :
    Finset.fold IntOp.minsi (2147483647#32) (fun x : Fin 640 => if left f p k x = f (p ⟨k, hk⟩) then BitVec.ofNat 32 x.val else 640#32) Finset.univ
      = BitVec.ofNat 32 (p ⟨k, hk⟩).val := by
  have hself : left f p k (p ⟨k, hk⟩) = f (p ⟨k, hk⟩) := by
    unfold left
    rw [if_neg]
    rintro ⟨a, ha, e⟩
    have := hp.bij.1 e
    subst this
    exact absurd ha (Nat.lt_irrefl k)
  have hlt : ∀ x : Fin 640, (BitVec.ofNat 32 x.val).toInt = x.val := fun x => toInt_ofNat (by have := x.isLt; omega)
  refine fold_minsi _ _ _ _ ?_ ?_ ⟨p ⟨k, hk⟩, Finset.mem_univ _, if_pos hself⟩
  · rw [hlt]; have := (p ⟨k, hk⟩).isLt; simp; omega
  · intro x _
    rw [hlt]
    by_cases h : left f p k x = f (p ⟨k, hk⟩)
    · rw [if_pos h, hlt]
      obtain ⟨b, rfl⟩ := hp.bij.2 x
      have hb : ⟨k, hk⟩ ≤ b := by
        by_contra hb
        rw [not_le] at hb
        refine hp.bot (p ⟨k, hk⟩) ?_
        rw [← h]
        unfold left
        exact if_pos ⟨b, hb, rfl⟩
      have hf : f (p b) = f (p ⟨k, hk⟩) := by
        rw [← h]
        unfold left
        rw [if_neg]
        intro h'
        have h2 : left f p k (p b) = ⊥ := by unfold left; exact if_pos h'
        exact hp.bot (p ⟨k, hk⟩) (h.symm.trans h2)
      rcases hb.lt_or_eq with hb | rfl
      · rcases hp.ord _ _ hb with h' | h'
        · exact absurd hf h'.ne
        · exact_mod_cast h'.2.le
      · exact le_refl _
    · rw [if_neg h]; have := (p ⟨k, hk⟩).isLt; simp
end Ranks

/-- A dense row of weights against a column: the sum over the ten neighbours. -/
theorem dense_row {n : Nat} (q : Fin 10 → Fin n) (hq : Function.Injective q) (a : Fin 10 → EReal) (y : Fin n → EReal) :
    ∑ j : Fin n, (∑ k : Fin 10, if q k = j then a k else 0) * y j = ∑ k : Fin 10, y (q k) * a k := by
  have e : ∀ j, (∑ k : Fin 10, if q k = j then a k else 0) * y j = ∑ k : Fin 10, if q k = j then y (q k) * a k else 0 := by
    intro j
    by_cases h : ∃ k, q k = j
    · obtain ⟨k, rfl⟩ := h
      rw [Finset.sum_eq_single k, Finset.sum_eq_single k, if_pos rfl, if_pos rfl, mul_comm]
      · intro b _ hb; exact if_neg fun h => hb (hq h)
      · intro h; exact absurd (Finset.mem_univ k) h
      · intro b _ hb; exact if_neg fun h => hb (hq h)
      · intro h; exact absurd (Finset.mem_univ k) h
    · rw [Finset.sum_eq_zero fun k _ => if_neg fun h' => h ⟨k, h'⟩, Finset.sum_eq_zero fun k _ => if_neg fun h' => h ⟨k, h'⟩, zero_mul]
  rw [Finset.sum_congr rfl fun j _ => e j, Finset.sum_comm]
  refine Finset.sum_congr rfl fun k _ => ?_
  rw [Finset.sum_ite_eq, if_pos (Finset.mem_univ _)]
end Net
-- ==== Proof.Spec.lean ====
/- The network's mathematics, stage by stage, and where it is finite. -/
module

public import proofs.«01_k».proof.Proof.Ranks

@[expose] public section

set_option maxRecDepth 16384
noncomputable section
open Idealize.ShloMosaic
open scoped BigOperators
namespace Net

/-- The nineteen arguments, at coordinates. -/
structure In where
  x : Fin 128 → Fin 512 → Fin 256 → EReal
  fw : Fin 256 → Fin 256 → EReal
  fb : Fin 256 → EReal
  g : Fin 256 → EReal
  be : Fin 256 → EReal
  ldt : Fin 256 → EReal
  are : Fin 256 → Fin 64 → EReal
  aim : Fin 256 → Fin 64 → EReal
  cre : Fin 256 → Fin 64 → EReal
  cim : Fin 256 → Fin 64 → EReal
  D : Fin 256 → EReal
  ow : Fin 256 → Fin 512 → EReal
  ob : Fin 512 → EReal
  f2 : Fin 256 → Fin 2 → EReal
  f2b : Fin 2 → EReal
  dsl : Fin 256 → Fin 256 → EReal
  w1 : Fin 256 → Fin 256 → EReal
  w2 : Fin 256 → Fin 2 → EReal
  reh : Fin 2 → Fin 256 → Fin 256 → EReal

/-- LayerNorm's and the later layers' arguments up to the similarities are finite, the steps are, and no pole is zero. -/
structure Ok (A : In) : Prop where
  g : ∀ h, IsR (A.g h)
  be : ∀ h, IsR (A.be h)
  ldt : ∀ h, A.ldt h < ⊤
  are : ∀ h k, IsR (A.are h k)
  aim : ∀ h k, IsR (A.aim h k)
  cre : ∀ h k, IsR (A.cre h k)
  cim : ∀ h k, IsR (A.cim h k)
  D : ∀ h, IsR (A.D h)
  ow : ∀ h c, IsR (A.ow h c)
  ob : ∀ c, IsR (A.ob c)
  dsl : ∀ k h, IsR (A.dsl k h)
  reh : ∀ c j d, IsR (A.reh c j d)
  pole : ∀ h k, A.are h k ≠ 0 ∨ A.aim h k ≠ 0

namespace In
variable (A : In)
/-- The first linear layer and the ReLU. -/
def hid (b : Fin 128) (l : Fin 512) (h : Fin 256) : EReal := act (A.x b l) A.fw A.fb h
/-- LayerNorm. -/
def ln (b : Fin 128) (l : Fin 512) (h : Fin 256) : EReal := lnR (A.hid b l) (A.g h) (A.be h) h
/-- The pole times the step, real and imaginary. -/
def dr (h : Fin 256) (k : Fin 64) : EReal := A.are h k * Ideal.exp (A.ldt h)
def di (h : Fin 256) (k : Fin 64) : EReal := A.aim h k * Ideal.exp (A.ldt h)
/-- One step's growth minus one. -/
def er (h : Fin 256) (k : Fin 64) : EReal := Ideal.exp (A.dr h k) * Ideal.cos (A.di h k) - 1
def ei (h : Fin 256) (k : Fin 64) : EReal := Ideal.exp (A.dr h k) * Ideal.sin (A.di h k)
/-- The coefficient's numerator and the squared size of the pole. -/
def nr (h : Fin 256) (k : Fin 64) : EReal := A.cre h k * A.er h k - A.cim h k * A.ei h k
def ni (h : Fin 256) (k : Fin 64) : EReal := A.cre h k * A.ei h k + A.cim h k * A.er h k
def den (h : Fin 256) (k : Fin 64) : EReal := A.are h k * A.are h k + A.aim h k * A.aim h k
/-- The discretised coefficient. -/
def cr (h : Fin 256) (k : Fin 64) : EReal := Ideal.div (A.nr h k * A.are h k + A.ni h k * A.aim h k) (A.den h k)
def ci (h : Fin 256) (k : Fin 64) : EReal := Ideal.div (A.ni h k * A.are h k - A.nr h k * A.aim h k) (A.den h k)
/-- The convolution kernel at lag `n`. -/
def ker (h : Fin 256) (n : Fin 512) : EReal :=
  Ideal.ofBits FTy.f32 1073741824#32 * (∑ k, A.cr h k * (Ideal.exp (A.dr h k * ((n.val : ℝ) : EReal)) * Ideal.cos (A.di h k * ((n.val : ℝ) : EReal)))
    - ∑ k, A.ci h k * (Ideal.exp (A.dr h k * ((n.val : ℝ) : EReal)) * Ideal.sin (A.di h k * ((n.val : ℝ) : EReal))))
/-- The causal convolution, with the skip term. -/
def conv (b : Fin 128) (h : Fin 256) (l : Fin 512) : EReal :=
  ∑ t : Fin 512, A.ln b t h * (if h' : t ≤ l then A.ker h ⟨l.val - t.val, by omega⟩ else 0) + A.ln b l h * A.D h
/-- The activation after it. -/
def ya (b : Fin 128) (h : Fin 256) (l : Fin 512) : EReal := gelu (A.conv b h l)
/-- The output layer before its gate. -/
def glu (b : Fin 128) (l : Fin 512) (c : Fin 512) : EReal := ∑ h, A.ya b h l * A.ow h c + A.ob c
/-- The gated output's maximum over the sequence. -/
def bag (b : Fin 128) (h : Fin 256) : EReal :=
  Finset.fold max ⊥ (fun l : Fin 512 => A.glu b l (lo h) * Ideal.logistic (A.glu b l (hi h))) Finset.univ
/-- The linear head's scores. -/
def lm (b : Fin 128) (o : Fin 2) : EReal := ∑ d, A.bag b d * A.f2 d o + A.f2b o
/-- The rehearsal rows, flattened. -/
def rehf (j : Fin 512) (d : Fin 256) : EReal := A.reh ⟨j.val / 256, by omega⟩ ⟨j.val % 256, by omega⟩ d
/-- The nodes' features. -/
def xc (i : Fin 640) (d : Fin 256) : EReal := if h : i.val < 128 then A.bag ⟨i.val, h⟩ d else A.rehf ⟨i.val - 128, by omega⟩ d
/-- The nodes' features, embedded. -/
def emb (i : Fin 640) (f : Fin 256) : EReal := ∑ d, A.xc i d * A.dsl d f
/-- The nodes' similarities. -/
def sim (i j : Fin 640) : EReal := ∑ f, A.emb i f * A.emb j f
/-- The graph layers' input: the samples, and zero elsewhere. -/
def x0 (j : Fin 640) (d : Fin 256) : EReal := if h : j.val < 128 then A.bag ⟨j.val, h⟩ d else 0
/-- The neighbours' weighted sum, the neighbours by `p`. -/
def agg (p : Fin 640 → Fin 640 → Fin 640) (y : Fin 640 → Fin 256 → EReal) (i : Fin 640) (d : Fin 256) : EReal :=
  ∑ k : Fin 10, y (p i (rk k)) d * wgt (A.sim i) (p i) k
/-- The first graph layer. -/
def lay (p : Fin 640 → Fin 640 → Fin 640) (i : Fin 640) (d : Fin 256) : EReal := max (∑ z, A.agg p A.x0 i z * A.w1 z d) 0
/-- The graph's scores. -/
def lg (p : Fin 640 → Fin 640 → Fin 640) (i : Fin 640) (o : Fin 2) : EReal := ∑ d, A.agg p (A.lay p) i d * A.w2 d o
end In

variable {A : In} (ok : Ok A)
include ok
namespace Ok
theorem ln (b : Fin 128) (l : Fin 512) (h : Fin 256) : IsR (A.ln b l h) := lnR_isR _ (ok.g h) (ok.be h) h
theorem dr (h : Fin 256) (k : Fin 64) : IsR (A.dr h k) := (ok.are h k).mul (.exp_lt (ok.ldt h))
theorem di (h : Fin 256) (k : Fin 64) : IsR (A.di h k) := (ok.aim h k).mul (.exp_lt (ok.ldt h))
end Ok
/-- The coefficient, on real numbers: as the reference and as the kernel compute it. -/
theorem coef (h : Fin 256) (k : Fin 64) : ∃ c e : ℝ, A.cr h k = (c : EReal) ∧ A.ci h k = (e : EReal)
    ∧ A.cre h k * Ideal.div (A.er h k * A.are h k + A.ei h k * A.aim h k) (A.den h k)
      - A.cim h k * Ideal.div (A.ei h k * A.are h k - A.er h k * A.aim h k) (A.den h k) = (c : EReal)
    ∧ A.cre h k * Ideal.div (A.ei h k * A.are h k - A.er h k * A.aim h k) (A.den h k)
      + A.cim h k * Ideal.div (A.er h k * A.are h k + A.ei h k * A.aim h k) (A.den h k) = (e : EReal) := by
  obtain ⟨X, hX⟩ := ok.dr h k
  obtain ⟨Y, hY⟩ := ok.di h k
  obtain ⟨a, ha⟩ := ok.are h k
  obtain ⟨b, hb⟩ := ok.aim h k
  obtain ⟨c, hc⟩ := ok.cre h k
  obtain ⟨d, hd⟩ := ok.cim h k
  have hp := ok.pole h k
  rw [ha, hb] at hp
  have hn : a * a + b * b ≠ 0 := by
    intro h0
    have h1 : a = 0 := by nlinarith [mul_self_nonneg a, mul_self_nonneg b]
    have h2 : b = 0 := by nlinarith [mul_self_nonneg a, mul_self_nonneg b]
    rcases hp with hp | hp
    · exact hp (by rw [h1]; rfl)
    · exact hp (by rw [h2]; rfl)
  have er : A.er h k = ((Real.exp X * Real.cos Y - 1 : ℝ) : EReal) := by
    unfold In.er; rw [hX, hY, EReal.coe_sub, EReal.coe_mul]; rfl
  have ei : A.ei h k = ((Real.exp X * Real.sin Y : ℝ) : EReal) := by
    unfold In.ei; rw [hX, hY, EReal.coe_mul]; rfl
  have dn : A.den h k = ((a * a + b * b : ℝ) : EReal) := by
    unfold In.den; rw [ha, hb, EReal.coe_add, EReal.coe_mul, EReal.coe_mul]
  refine ⟨((c * (Real.exp X * Real.cos Y - 1) - d * (Real.exp X * Real.sin Y)) * a + (c * (Real.exp X * Real.sin Y) + d * (Real.exp X * Real.cos Y - 1)) * b) / (a * a + b * b),
    ((c * (Real.exp X * Real.sin Y) + d * (Real.exp X * Real.cos Y - 1)) * a - (c * (Real.exp X * Real.cos Y - 1) - d * (Real.exp X * Real.sin Y)) * b) / (a * a + b * b), ?_, ?_, ?_, ?_⟩
  · unfold In.cr In.nr In.ni
    rw [er, ei, dn, ha, hb, hc, hd]
    simp only [← EReal.coe_mul, ← EReal.coe_add, ← EReal.coe_sub]
    exact div_coe _ _ hn
  · unfold In.ci In.nr In.ni
    rw [er, ei, dn, ha, hb, hc, hd]
    simp only [← EReal.coe_mul, ← EReal.coe_add, ← EReal.coe_sub]
    exact div_coe _ _ hn
  · rw [er, ei, dn, ha, hb, hc, hd]
    simp only [← EReal.coe_mul, ← EReal.coe_add, ← EReal.coe_sub]
    rw [div_coe _ _ hn, div_coe _ _ hn]
    simp only [← EReal.coe_mul, ← EReal.coe_add, ← EReal.coe_sub]
    exact congrArg _ (by ring)
  · rw [er, ei, dn, ha, hb, hc, hd]
    simp only [← EReal.coe_mul, ← EReal.coe_add, ← EReal.coe_sub]
    rw [div_coe _ _ hn, div_coe _ _ hn]
    simp only [← EReal.coe_mul, ← EReal.coe_add, ← EReal.coe_sub]
    exact congrArg _ (by ring)
namespace Ok
theorem ker (h : Fin 256) (n : Fin 512) : IsR (A.ker h n) := by
  unfold In.ker
  refine IsR.mul (by rw [two_eq]; exact .coe _) (IsR.sub (IsR.sum _ fun k => ?_) (IsR.sum _ fun k => ?_))
  · obtain ⟨c, e, hc, -⟩ := coef ok h k
    obtain ⟨X, hX⟩ := ok.dr h k
    obtain ⟨Y, hY⟩ := ok.di h k
    rw [hc, hX, hY, ← EReal.coe_mul, ← EReal.coe_mul]
    exact (IsR.coe _).mul (IsR.mul ⟨_, rfl⟩ ⟨_, rfl⟩)
  · obtain ⟨c, e, -, he, -⟩ := coef ok h k
    obtain ⟨X, hX⟩ := ok.dr h k
    obtain ⟨Y, hY⟩ := ok.di h k
    rw [he, hX, hY, ← EReal.coe_mul, ← EReal.coe_mul]
    exact (IsR.coe _).mul (IsR.mul ⟨_, rfl⟩ ⟨_, rfl⟩)
theorem conv (b : Fin 128) (h : Fin 256) (l : Fin 512) : IsR (A.conv b h l) := by
  refine IsR.add (IsR.sum _ fun t => (ok.ln b t h).mul ?_) ((ok.ln b l h).mul (ok.D h))
  split
  · exact ok.ker h _
  · exact .zero
theorem glu (b : Fin 128) (l : Fin 512) (c : Fin 512) : IsR (A.glu b l c) :=
  (IsR.sum _ fun h => (gelu_isR (ok.conv b h l)).mul (ok.ow h c)).add (ok.ob c)
theorem bag (b : Fin 128) (h : Fin 256) : IsR (A.bag b h) := by
  obtain ⟨j, e, -⟩ := fold_max_eq (n := 512) (by omega) fun l => A.glu b l (lo h) * Ideal.logistic (A.glu b l (hi h))
  unfold In.bag
  rw [e]
  exact (ok.glu b j _).mul (ok.glu b j _).logistic
theorem xc (i : Fin 640) (d : Fin 256) : IsR (A.xc i d) := by
  unfold In.xc
  split
  · exact ok.bag _ _
  · exact ok.reh _ _ _
theorem sim (i j : Fin 640) : IsR (A.sim i j) :=
  IsR.sum _ fun f => (IsR.sum _ fun d => (ok.xc i d).mul (ok.dsl d f)).mul (IsR.sum _ fun d => (ok.xc j d).mul (ok.dsl d f))
end Ok

omit ok in
/-- The kernel's split of the exponential at lag `l - t` into powers at `l` and inverse powers at `t`. -/
theorem lagZ (X Y : ℝ) {l t : Nat} (h : t ≤ l) :
    Complex.exp ⟨X, Y⟩ ^ l * Complex.exp (-⟨X, Y⟩) ^ t = ⟨Real.exp (X * ((l - t : Nat) : ℝ)) * Real.cos (Y * ((l - t : Nat) : ℝ)), Real.exp (X * ((l - t : Nat) : ℝ)) * Real.sin (Y * ((l - t : Nat) : ℝ))⟩ := by
  have e : Complex.exp ⟨X, Y⟩ ^ l * Complex.exp (-⟨X, Y⟩) ^ t = Complex.exp (((l - t : Nat) : ℂ) * ⟨X, Y⟩) := by
    rw [← Complex.exp_nat_mul, ← Complex.exp_nat_mul, ← Complex.exp_add]
    congr 1
    rw [Nat.cast_sub h]; ring
  rw [e]
  apply Complex.ext
  · rw [Complex.exp_re]; simp [mul_comm]
  · rw [Complex.exp_im]; simp [mul_comm]

/-- One entry of the kernel's lag matrix on or below the diagonal. -/
theorem lag (h : Fin 256) (l t : Fin 512) (hl : t ≤ l) (X Y C E : Fin 64 → ℝ) (hX : ∀ k, A.dr h k = (X k : EReal)) (hY : ∀ k, A.di h k = (Y k : EReal))
    (hC : ∀ k, A.cr h k = (C k : EReal)) (hE : ∀ k, A.ci h k = (E k : EReal))
    (Z W : Fin 64 → ℂ) (hZ : ∀ k, Z k = Complex.exp ⟨X k, Y k⟩ ^ l.val) (hW : ∀ k, W k = Complex.exp (-⟨X k, Y k⟩) ^ t.val) :
    Ideal.ofBits FTy.f32 1073741824#32 *
      (∑ k : Fin 64, ((C k : EReal) * (((Z k).re : ℝ) : EReal) - (E k : EReal) * (((Z k).im : ℝ) : EReal)) * (((W k).re : ℝ) : EReal)
       + ∑ k : Fin 64, ((C k : EReal) * (((Z k).im : ℝ) : EReal) + (E k : EReal) * (((Z k).re : ℝ) : EReal)) * (0 - (((W k).im : ℝ) : EReal)))
    = A.ker h ⟨l.val - t.val, by omega⟩ := by
  have hre : ∀ k, (Z k).re * (W k).re - (Z k).im * (W k).im = Real.exp (X k * ((l.val - t.val : Nat) : ℝ)) * Real.cos (Y k * ((l.val - t.val : Nat) : ℝ)) := fun k => by
    rw [← Complex.mul_re, hZ, hW, lagZ _ _ hl]
  have him : ∀ k, (Z k).re * (W k).im + (Z k).im * (W k).re = Real.exp (X k * ((l.val - t.val : Nat) : ℝ)) * Real.sin (Y k * ((l.val - t.val : Nat) : ℝ)) := fun k => by
    rw [← Complex.mul_im, hZ, hW, lagZ _ _ hl]
  have z0 : (0 : EReal) = ((0 : ℝ) : EReal) := rfl
  unfold In.ker
  refine congrArg (fun y : EReal => Ideal.ofBits FTy.f32 1073741824#32 * y) ?_
  have eL : ∀ k : Fin 64, A.cr h k * (Ideal.exp (A.dr h k * (((l.val - t.val : Nat) : ℝ) : EReal)) * Ideal.cos (A.di h k * (((l.val - t.val : Nat) : ℝ) : EReal)))
      = ((C k * ((Z k).re * (W k).re - (Z k).im * (W k).im) : ℝ) : EReal) := fun k => by
    rw [hC, hX, hY, ← EReal.coe_mul, ← EReal.coe_mul, hre, EReal.coe_mul, EReal.coe_mul]; rfl
  have eR : ∀ k : Fin 64, A.ci h k * (Ideal.exp (A.dr h k * (((l.val - t.val : Nat) : ℝ) : EReal)) * Ideal.sin (A.di h k * (((l.val - t.val : Nat) : ℝ) : EReal)))
      = ((E k * ((Z k).re * (W k).im + (Z k).im * (W k).re) : ℝ) : EReal) := fun k => by
    rw [hE, hX, hY, ← EReal.coe_mul, ← EReal.coe_mul, him, EReal.coe_mul, EReal.coe_mul]; rfl
  show _ = (∑ k, A.cr h k * (Ideal.exp (A.dr h k * (((l.val - t.val : Nat) : ℝ) : EReal)) * Ideal.cos (A.di h k * (((l.val - t.val : Nat) : ℝ) : EReal))))
    - ∑ k, A.ci h k * (Ideal.exp (A.dr h k * (((l.val - t.val : Nat) : ℝ) : EReal)) * Ideal.sin (A.di h k * (((l.val - t.val : Nat) : ℝ) : EReal)))
  simp only [eL, eR]
  simp only [z0, ← EReal.coe_mul, ← EReal.coe_add, ← EReal.coe_sub, ← coe_sum]
  refine congrArg _ ?_
  rw [← Finset.sum_add_distrib, ← Finset.sum_sub_distrib]
  exact Finset.sum_congr rfl fun k _ => by ring
end Net
-- ==== Proof.Entry.lean ====
/- What the arrays hold when each custom call is entered, in the arguments' own words. -/
module

public import proofs.«01_k».proof.Proof.Gen.KernelIdeal.Frame
public import proofs.«01_k».proof.Proof.Spec
public import Idealize.ShloMosaic.Lib.Pipeline.ValueKit
public import Idealize.ShloMosaic.Lib.StableHlo.ReadAt
public import Idealize.ShloMosaic.Lib.Pointwise

@[expose] public section

set_option maxRecDepth 16384
noncomputable section
open Idealize.ShloMosaic Idealize.ShloMosaic.TcCoe Idealize.SL.Sem
namespace Cert.KernelIdeal.Value
open Cert.KernelIdeal Cert.KernelIdeal.Gen

variable (m : (ℓ : Loc nD τ sig) → Buf (Elt Ideal) ℓ) (ρ : Dev nD → PrngReg) (c : Dev nD)

/-- The arguments as the mathematics takes them. -/
def inp : Net.In where
  x b l k := m ((c : Thread nD τ).loc main_arg0) (ix3 b l k)
  fw k h := m ((c : Thread nD τ).loc main_arg1) (ix2 k h)
  fb h := m ((c : Thread nD τ).loc main_arg2) (ix1 h)
  g h := m ((c : Thread nD τ).loc main_arg3) (ix1 h)
  be h := m ((c : Thread nD τ).loc main_arg4) (ix1 h)
  ldt h := m ((c : Thread nD τ).loc main_arg5) (ix1 h)
  are h k := m ((c : Thread nD τ).loc main_arg6) (ix2 h k)
  aim h k := m ((c : Thread nD τ).loc main_arg7) (ix2 h k)
  cre h k := m ((c : Thread nD τ).loc main_arg8) (ix2 h k)
  cim h k := m ((c : Thread nD τ).loc main_arg9) (ix2 h k)
  D h := m ((c : Thread nD τ).loc main_arg10) (ix1 h)
  ow h k := m ((c : Thread nD τ).loc main_arg11) (ix2 h k)
  ob k := m ((c : Thread nD τ).loc main_arg12) (ix1 k)
  f2 h o := m ((c : Thread nD τ).loc main_arg13) (ix2 h o)
  f2b o := m ((c : Thread nD τ).loc main_arg14) (ix1 o)
  dsl k h := m ((c : Thread nD τ).loc main_arg15) (ix2 k h)
  w1 k h := m ((c : Thread nD τ).loc main_arg16) (ix2 k h)
  w2 h o := m ((c : Thread nD τ).loc main_arg17) (ix2 h o)
  reh n j d := m ((c : Thread nD τ).loc main_arg18) (ix3 n j d)

theorem e34 (h : Fin 256) (k : Fin 64) : W1 m ρ c (Proc.devRef .tc main_v34) (ix2 h k)
    = (inp m c).cre h k * Ideal.div ((inp m c).er h k * (inp m c).are h k + (inp m c).ei h k * (inp m c).aim h k) ((inp m c).den h k)
      - (inp m c).cim h k * Ideal.div ((inp m c).ei h k * (inp m c).are h k - (inp m c).er h k * (inp m c).aim h k) ((inp m c).den h k) := by
  show StableHlo.after hostOps0 (W0 m ρ c) (Proc.devRef .tc main_v34) (ix2 h k) = _
  after_reads_at
  rfl
theorem e37 (h : Fin 256) (k : Fin 64) : W1 m ρ c (Proc.devRef .tc main_v37) (ix2 h k)
    = (inp m c).cre h k * Ideal.div ((inp m c).ei h k * (inp m c).are h k - (inp m c).er h k * (inp m c).aim h k) ((inp m c).den h k)
      + (inp m c).cim h k * Ideal.div ((inp m c).er h k * (inp m c).are h k + (inp m c).ei h k * (inp m c).aim h k) ((inp m c).den h k) := by
  show StableHlo.after hostOps0 (W0 m ρ c) (Proc.devRef .tc main_v37) (ix2 h k) = _
  after_reads_at
  rfl
theorem e9 (h : Fin 256) (k : Fin 64) : W1 m ρ c (Proc.devRef .tc main_v9) (ix2 h k) = Ideal.exp ((inp m c).dr h k) * Ideal.cos ((inp m c).di h k) := by
  show StableHlo.after hostOps0 (W0 m ρ c) (Proc.devRef .tc main_v9) (ix2 h k) = _
  after_reads_at
  rfl
theorem e11 (h : Fin 256) (k : Fin 64) : W1 m ρ c (Proc.devRef .tc main_v11) (ix2 h k) = Ideal.exp ((inp m c).dr h k) * Ideal.sin ((inp m c).di h k) := by
  show StableHlo.after hostOps0 (W0 m ρ c) (Proc.devRef .tc main_v11) (ix2 h k) = _
  after_reads_at
  rfl
theorem e15 (h : Fin 256) (k : Fin 64) : W1 m ρ c (Proc.devRef .tc main_v15) (ix2 h k) = Ideal.exp (-(inp m c).dr h k) * Ideal.cos ((inp m c).di h k) := by
  show StableHlo.after hostOps0 (W0 m ρ c) (Proc.devRef .tc main_v15) (ix2 h k) = _
  after_reads_at
  rfl
theorem e18 (h : Fin 256) (k : Fin 64) : W1 m ρ c (Proc.devRef .tc main_v18) (ix2 h k) = -Ideal.exp (-(inp m c).dr h k) * Ideal.sin ((inp m c).di h k) := by
  show StableHlo.after hostOps0 (W0 m ρ c) (Proc.devRef .tc main_v18) (ix2 h k) = _
  after_reads_at
  rfl
/-- A row of the flattened batch. -/
def flat (b : Fin 128) (l : Fin 512) : Fin 65536 := ⟨b.val * 512 + l.val, by omega⟩
theorem e38 (b : Fin 128) (l : Fin 512) (k : Fin 256) : W1 m ρ c (Proc.devRef .tc main_v38) (ix2 (flat b l) k) = (inp m c).x b l k := by
  show StableHlo.after hostOps0 (W0 m ρ c) (Proc.devRef .tc main_v38) (ix2 (flat b l) k) = _
  after_reads_at
  have h1 : (⟨(flat b l).val / 512, by have := (flat b l).isLt; omega⟩ : Fin 128) = b := Fin.ext (by show (b.val * 512 + l.val) / 512 = b.val; omega)
  have h2 : (⟨(flat b l).val % 512, by omega⟩ : Fin 512) = l := Fin.ext (by show (b.val * 512 + l.val) % 512 = l.val; omega)
  exact congrArg₂ (fun b' l' => m ((c : Thread nD τ).loc main_arg0) (ix3 b' l' k)) h1 h2
theorem e39 (h : Fin 256) : W1 m ρ c (Proc.devRef .tc main_v39) (ix2 h 0) = (inp m c).fb h := by
  show StableHlo.after hostOps0 (W0 m ρ c) (Proc.devRef .tc main_v39) (ix2 h 0) = _
  after_reads_at
  rfl
theorem e40 (h : Fin 256) : W1 m ρ c (Proc.devRef .tc main_v40) (ix2 h 0) = (inp m c).g h := by
  show StableHlo.after hostOps0 (W0 m ρ c) (Proc.devRef .tc main_v40) (ix2 h 0) = _
  after_reads_at
  rfl
theorem e41 (h : Fin 256) : W1 m ρ c (Proc.devRef .tc main_v41) (ix2 h 0) = (inp m c).be h := by
  show StableHlo.after hostOps0 (W0 m ρ c) (Proc.devRef .tc main_v41) (ix2 h 0) = _
  after_reads_at
  rfl
theorem e43 (h : Fin 256) (b : Fin 128) (l : Fin 512) : W3 m ρ c (Proc.devRef .tc main_v43) (ix3 h b l) = W2 m ρ c (Proc.devRef .tc main_v42) (ix2 h (flat b l)) := by
  show StableHlo.after hostOps1 (W2 m ρ c) (Proc.devRef .tc main_v43) (ix3 h b l) = _
  after_reads_at
  rfl
theorem e44 (h : Fin 256) : W3 m ρ c (Proc.devRef .tc main_v44) (ix2 h 0) = (inp m c).D h := by
  have e : W2 m ρ c (Proc.devRef .tc main_arg10) = m ((c : Thread nD τ).loc main_arg10) := W2_args m ρ c main_arg10 (by decide)
  show StableHlo.after hostOps1 (W2 m ρ c) (Proc.devRef .tc main_v44) (ix2 h 0) = _
  after_reads_at
  rw [e]
  rfl
theorem e46 (k : Fin 512) : W5 m ρ c (Proc.devRef .tc main_v46) (ix2 k 0) = (inp m c).ob k := by
  have e : W4 m ρ c (Proc.devRef .tc main_arg12) = m ((c : Thread nD τ).loc main_arg12) := W4_args m ρ c main_arg12 (by decide)
  show StableHlo.after hostOps2 (W4 m ρ c) (Proc.devRef .tc main_v46) (ix2 k 0) = _
  after_reads_at
  rw [e]
  rfl
theorem e48 (j : Fin 512) (d : Fin 256) : W7 m ρ c (Proc.devRef .tc main_v48) (ix2 j d) = (inp m c).rehf j d := by
  have e : W6 m ρ c (Proc.devRef .tc main_arg18) = m ((c : Thread nD τ).loc main_arg18) := W6_args m ρ c main_arg18 (by decide)
  show StableHlo.after hostOps3 (W6 m ρ c) (Proc.devRef .tc main_v48) (ix2 j d) = _
  after_reads_at
  rw [e]
  rfl
theorem e49 (o : Fin 2) : W7 m ρ c (Proc.devRef .tc main_v49) (ix2 0 o) = (inp m c).f2b o := by
  have e : W6 m ρ c (Proc.devRef .tc main_arg14) = m ((c : Thread nD τ).loc main_arg14) := W6_args m ρ c main_arg14 (by decide)
  show StableHlo.after hostOps3 (W6 m ρ c) (Proc.devRef .tc main_v49) (ix2 0 o) = _
  after_reads_at
  rw [e]
  rfl
end Cert.KernelIdeal.Value
-- ==== Proof.Sel.lean ====
/- Comparisons of small machine integers, read as comparisons of numbers. -/
module

public import proofs.«01_k».proof.Proof.Ranks

@[expose] public section

set_option maxRecDepth 16384
noncomputable section
open Idealize.ShloMosaic
namespace Net

theorem select_ofBool {α : Type} (p : Bool) (x y : α) : Scalar.select (BitVec.ofBool p) x y = if p then x else y := by
  cases p <;> rfl

/-- Choosing by `a ≥ b`. -/
theorem select_sge {α : Type} (a b : Fin 512) (x y : α) :
    Scalar.select (IntOp.cmpi CmpIPredicate.sge (BitVec.ofNat 32 a.val) (BitVec.ofNat 32 b.val)) x y = if b ≤ a then x else y := by
  have ha := a.isLt
  have hb := b.isLt
  show Scalar.select (BitVec.ofBool ((BitVec.ofNat 32 b.val).sle (BitVec.ofNat 32 a.val))) x y = _
  rw [select_ofBool, BitVec.sle_eq_decide, toInt_ofNat (by omega), toInt_ofNat (by omega)]
  by_cases h : b ≤ a
  · rw [if_pos h, if_pos]; exact decide_eq_true (by exact_mod_cast h)
  · rw [if_neg h, if_neg]; intro h'; exact h (by have := of_decide_eq_true h'; exact_mod_cast this)

theorem sub_toInt (a b : Fin 512) : (IntOp.subi (BitVec.ofNat 32 a.val) (BitVec.ofNat 32 b.val)).toInt = (a.val : Int) - b.val := by
  have ha := a.isLt
  have hb := b.isLt
  show (BitVec.ofNat 32 a.val - BitVec.ofNat 32 b.val).toInt = _
  rw [BitVec.toInt_sub, toInt_ofNat (by omega), toInt_ofNat (by omega), Int.bmod_eq_of_le (by omega) (by omega)]

/-- Choosing by the lag's sign. -/
theorem select_lag {α : Type} (a b : Fin 512) (x y : α) :
    Scalar.select (IntOp.cmpi CmpIPredicate.sge (IntOp.subi (BitVec.ofNat 32 a.val) (BitVec.ofNat 32 b.val)) 0#32) x y = if b ≤ a then x else y := by
  show Scalar.select (BitVec.ofBool ((0#32).sle (IntOp.subi (BitVec.ofNat 32 a.val) (BitVec.ofNat 32 b.val)))) x y = _
  rw [select_ofBool, BitVec.sle_eq_decide, sub_toInt, show (0#32).toInt = 0 from rfl]
  by_cases h : b ≤ a
  · rw [if_pos h, if_pos]; exact decide_eq_true (by have : b.val ≤ a.val := h; omega)
  · rw [if_neg h, if_neg]; intro h'; exact h (by have := of_decide_eq_true h'; show b.val ≤ a.val; omega)

/-- The lag the reference looks up, where it is not negative. -/
theorem lag_idx (a b : Fin 512) (h : b ≤ a) :
    Scalar.select (IntOp.cmpi CmpIPredicate.slt (IntOp.maxsi (IntOp.subi (BitVec.ofNat 32 a.val) (BitVec.ofNat 32 b.val)) 0#32) 0#32)
      (IntOp.addi (IntOp.maxsi (IntOp.subi (BitVec.ofNat 32 a.val) (BitVec.ofNat 32 b.val)) 0#32) 512#32)
      (IntOp.maxsi (IntOp.subi (BitVec.ofNat 32 a.val) (BitVec.ofNat 32 b.val)) 0#32) = BitVec.ofNat 32 (a.val - b.val) := by
  have ha := a.isLt
  have hb : b.val ≤ a.val := h
  have e : IntOp.subi (BitVec.ofNat 32 a.val) (BitVec.ofNat 32 b.val) = BitVec.ofNat 32 (a.val - b.val) :=
    BitVec.eq_of_toInt_eq (by rw [sub_toInt, toInt_ofNat (by omega)]; omega)
  have e2 : IntOp.maxsi (BitVec.ofNat 32 (a.val - b.val)) 0#32 = BitVec.ofNat 32 (a.val - b.val) := by
    unfold IntOp.maxsi
    split
    · rfl
    · rename_i h'
      rw [BitVec.slt_eq_decide, toInt_ofNat (n := a.val - b.val) (by omega)] at h'
      have h0 : a.val - b.val = 0 := by
        by_contra hne
        exact h' (decide_eq_true (by show (0 : Int) < _; omega))
      rw [h0]
  rw [e, e2]
  show Scalar.select (BitVec.ofBool ((BitVec.ofNat 32 (a.val - b.val)).slt 0#32)) _ _ = _
  rw [select_ofBool, BitVec.slt_eq_decide, toInt_ofNat (by omega), show (0#32).toInt = 0 from rfl, if_neg]
  intro h'; have := of_decide_eq_true h'; omega
end Net
-- ==== Proof.Fc.lean ====
/- Custom call 0 (fc1, ReLU, LayerNorm): the array it leaves, in closed form over the arrays it finds. -/
module

public import proofs.«01_k».proof.Proof.Gen.KernelIdeal.Frame
public import proofs.«01_k».proof.Proof.Defs2
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The windows' block indices. -/
theorem fcIdx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val] ∧ t.val < 32 :=
  (by decide +kernel : ∀ t : Fin grid0.N, _)

/-- The array of normalised activations, transposed: feature by row. -/
def FC (x : FVec Ideal S65536x256 .f32) (w : FVec Ideal S256x256 .f32) (b g be : FVec Ideal S256x1 .f32) :
    FVec Ideal S256x65536 .f32 := fun i =>
  Net.lnK (fun h' => max (∑ k : Fin 256, w (ix2 k h') * x (ix2 (i 1) k) + b (ix2 h' 0)) 0) (g (ix2 (i 0) 0)) (be (ix2 (i 0) 0)) (i 0)

/-- What the body stores, at a coordinate. -/
theorem pay0 (w : Vec Ideal S256x256 .f32) (x : Vec Ideal S2048x256 .f32) (b g be : Vec Ideal S256x1 .f32) (h : Fin 256) (r : Fin 2048) :
    k0_pay1 w x b g be (ix2 h r)
      = Net.lnK (fun h' => max (∑ k : Fin 256, w (ix2 k h') * x (ix2 r k) + b (ix2 h' 0)) 0) (g (ix2 h 0)) (be (ix2 h 0)) h := by
  pointwise [k0_pay1, Net.lnK, Net.varOf, Net.meanOf, Net.c256, Net.cEps]

variable (V : (c : Dev nD) → (b : Ref sig .tc) → Buf (Elt Ideal) ((c : Thread nD τ).loc b))

/-- The row of the whole array that row `r` of block `t` is. -/
def fcRow (t : Fin cfg0.N) (r : Fin 2048) : Fin 65536 := ⟨t.val * 2048 + r.val, by have := (fcIdx t).2.2.2.2.2.2; have := r.isLt; omega⟩

theorem rd0_0 (c : Dev nD) (t : Fin cfg0.N) (r : Fin 2048) (k : Fin 256) :
    iblk0 V c 0 t (ix2 r k) = V c main_v38 (ix2 (fcRow t r) k) := by blk_ext [iblk0, fcIdx t, fcRow]
theorem rd0_1 (c : Dev nD) (t : Fin cfg0.N) : iblk0 V c 1 t = V c main_arg1 := by blk_ext! [iblk0, fcIdx t]
theorem rd0_2 (c : Dev nD) (t : Fin cfg0.N) : iblk0 V c 2 t = V c main_v39 := by blk_ext! [iblk0, fcIdx t]
theorem rd0_3 (c : Dev nD) (t : Fin cfg0.N) : iblk0 V c 3 t = V c main_v40 := by blk_ext! [iblk0, fcIdx t]
theorem rd0_4 (c : Dev nD) (t : Fin cfg0.N) : iblk0 V c 4 t = V c main_v41 := by blk_ext! [iblk0, fcIdx t]
theorem em0_5 (t : Fin cfg0.N) (h : Fin 256) (r : Fin 2048) :
    ((cfg0.win 5).blk t).view.emb (ix2 h r) = ix2 h (fcRow t r) := by blk_ext [fcIdx t, fcRow]

/-- What the body stores at a point is the closed form at the place the store goes. -/
theorem point0 (c : Dev nD) (t : Fin cfg0.N) (y : S256x2048.Idx) :
    k0_pay1 (iblk0 V c 1 t) (iblk0 V c 0 t) (iblk0 V c 2 t) (iblk0 V c 3 t) (iblk0 V c 4 t) y
    = FC (V c main_v38) (V c main_arg1) (V c main_v39) (V c main_v40) (V c main_v41) (((cfg0.win 5).blk t).view.emb y) := by
  idx_vars y
  rw [em0_5, pay0, rd0_1, rd0_2, rd0_3, rd0_4]
  unfold FC
  simp only [rd0_0]
  rfl

/-- The array custom call 0 leaves. -/
theorem final0 (c : Dev nD) : (dat0 V c).arrAt 5 cfg0.N
    = FC (V c main_v38) (V c main_arg1) (V c main_v39) (V c main_v40) (V c main_v41) := by
  refine (dat0 V c).arrAt_eq_of_covers 5 _ (by decide +kernel) fun t _ y => ?_
  blk_simp
  rw [after0_5]; frame_out
  exact point0 V c t y
end Cert.KernelIdeal.Value
-- ==== Proof.Conv.lean ====
/- Custom call 1 (the convolutions): what its body stores, one channel at a time. -/
module

public import proofs.«01_k».proof.Proof.Gen.KernelIdeal.Frame
public import proofs.«01_k».proof.Proof.Reals
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- One row of 64 modes. -/
local notation "R1" => FVec Ideal S1x64 FTy.f32

/-- The real part of a row squared. -/
def sqRe (a b : R1) : R1 := subf (mulf a a) (mulf b b)
/-- The imaginary part of a row squared. -/
def sqIm (a b : R1) : R1 := mulf (mulf (broadcast S1x64 (Scalar.ofBits (F := Ideal) .f32 0x40000000#32)) a) b

/-- A table followed by its rows times the row (`a`, `b`): real parts. -/
def dblRe {s s2 : Shape} (hb : S1x64.Broadcasts s) (d : Fin s2.rank) (hc : Shape.Concatenates [s, s] s2 d) (p q : FVec Ideal s .f32) (a b : R1) : FVec Ideal s2 .f32 :=
  concatenate s2 d [⟨s, p⟩, ⟨s, subf (mulf p (broadcastTo s a hb)) (mulf q (broadcastTo s b hb))⟩] hc
/-- A table followed by its rows times the row (`a`, `b`): imaginary parts. -/
def dblIm {s s2 : Shape} (hb : S1x64.Broadcasts s) (d : Fin s2.rank) (hc : Shape.Concatenates [s, s] s2 d) (p q : FVec Ideal s .f32) (a b : R1) : FVec Ideal s2 .f32 :=
  concatenate s2 d [⟨s, q⟩, ⟨s, addf (mulf p (broadcastTo s b hb)) (mulf q (broadcastTo s a hb))⟩] hc

/-- A row as the body reads it. -/
def rowOf (x : Vec Ideal S1x64 .f32) : R1 := shapeCast S1x64 x shapeCasts_S1x64_S1x64
/-- The row of ones. -/
def one1 : R1 := broadcast S1x64 (Scalar.ofBits (F := Ideal) .f32 0x3F800000#32)
/-- The row of zeros. -/
def zero1 : R1 := broadcast S1x64 (Scalar.ofBits (F := Ideal) .f32 0x00000000#32)
/-- Powers 0 and 1: real parts. -/
def t2Re (a b : R1) : FVec Ideal S2x64 .f32 := concatenate S2x64 0 [⟨S1x64, one1⟩, ⟨S1x64, subf (mulf one1 a) (mulf zero1 b)⟩] concatenates_S1x64_S1x64_S2x64_d0
/-- Powers 0 and 1: imaginary parts. -/
def t2Im (a b : R1) : FVec Ideal S2x64 .f32 := concatenate S2x64 0 [⟨S1x64, zero1⟩, ⟨S1x64, addf (mulf one1 b) (mulf zero1 a)⟩] concatenates_S1x64_S1x64_S2x64_d0

/-- Power 2: real part. -/
def p2Re (a b : R1) : R1 := sqRe a b
/-- Power 2: imaginary part. -/
def p2Im (a b : R1) : R1 := sqIm a b
/-- Powers below 4: real parts. -/
def t4Re (a b : R1) : FVec Ideal S4x64 .f32 := dblRe broadcasts_S1x64_S2x64 0 concatenates_S2x64_S2x64_S4x64_d0 (t2Re a b) (t2Im a b) (p2Re a b) (p2Im a b)
/-- Powers below 4: imaginary parts. -/
def t4Im (a b : R1) : FVec Ideal S4x64 .f32 := dblIm broadcasts_S1x64_S2x64 0 concatenates_S2x64_S2x64_S4x64_d0 (t2Re a b) (t2Im a b) (p2Re a b) (p2Im a b)

/-- Power 4: real part. -/
def p4Re (a b : R1) : R1 := sqRe (p2Re a b) (p2Im a b)
/-- Power 4: imaginary part. -/
def p4Im (a b : R1) : R1 := sqIm (p2Re a b) (p2Im a b)
/-- Powers below 8: real parts. -/
def t8Re (a b : R1) : FVec Ideal S8x64 .f32 := dblRe broadcasts_S1x64_S4x64 0 concatenates_S4x64_S4x64_S8x64_d0 (t4Re a b) (t4Im a b) (p4Re a b) (p4Im a b)
/-- Powers below 8: imaginary parts. -/
def t8Im (a b : R1) : FVec Ideal S8x64 .f32 := dblIm broadcasts_S1x64_S4x64 0 concatenates_S4x64_S4x64_S8x64_d0 (t4Re a b) (t4Im a b) (p4Re a b) (p4Im a b)

/-- Power 8: real part. -/
def p8Re (a b : R1) : R1 := sqRe (p4Re a b) (p4Im a b)
/-- Power 8: imaginary part. -/
def p8Im (a b : R1) : R1 := sqIm (p4Re a b) (p4Im a b)
/-- Powers below 16: real parts. -/
def t16Re (a b : R1) : FVec Ideal S16x64 .f32 := dblRe broadcasts_S1x64_S8x64 0 concatenates_S8x64_S8x64_S16x64_d0 (t8Re a b) (t8Im a b) (p8Re a b) (p8Im a b)
/-- Powers below 16: imaginary parts. -/
def t16Im (a b : R1) : FVec Ideal S16x64 .f32 := dblIm broadcasts_S1x64_S8x64 0 concatenates_S8x64_S8x64_S16x64_d0 (t8Re a b) (t8Im a b) (p8Re a b) (p8Im a b)

/-- Power 16: real part. -/
def p16Re (a b : R1) : R1 := sqRe (p8Re a b) (p8Im a b)
/-- Power 16: imaginary part. -/
def p16Im (a b : R1) : R1 := sqIm (p8Re a b) (p8Im a b)
/-- Powers below 32: real parts. -/
def t32Re (a b : R1) : FVec Ideal S32x64 .f32 := dblRe broadcasts_S1x64_S16x64 0 concatenates_S16x64_S16x64_S32x64_d0 (t16Re a b) (t16Im a b) (p16Re a b) (p16Im a b)
/-- Powers below 32: imaginary parts. -/
def t32Im (a b : R1) : FVec Ideal S32x64 .f32 := dblIm broadcasts_S1x64_S16x64 0 concatenates_S16x64_S16x64_S32x64_d0 (t16Re a b) (t16Im a b) (p16Re a b) (p16Im a b)

/-- Power 32: real part. -/
def p32Re (a b : R1) : R1 := sqRe (p16Re a b) (p16Im a b)
/-- Power 32: imaginary part. -/
def p32Im (a b : R1) : R1 := sqIm (p16Re a b) (p16Im a b)
/-- Powers below 64: real parts. -/
def t64Re (a b : R1) : FVec Ideal S64x64 .f32 := dblRe broadcasts_S1x64_S32x64 0 concatenates_S32x64_S32x64_S64x64_d0 (t32Re a b) (t32Im a b) (p32Re a b) (p32Im a b)
/-- Powers below 64: imaginary parts. -/
def t64Im (a b : R1) : FVec Ideal S64x64 .f32 := dblIm broadcasts_S1x64_S32x64 0 concatenates_S32x64_S32x64_S64x64_d0 (t32Re a b) (t32Im a b) (p32Re a b) (p32Im a b)

/-- Power 64: real part. -/
def p64Re (a b : R1) : R1 := sqRe (p32Re a b) (p32Im a b)
/-- Power 64: imaginary part. -/
def p64Im (a b : R1) : R1 := sqIm (p32Re a b) (p32Im a b)
/-- Powers below 128: real parts. -/
def t128Re (a b : R1) : FVec Ideal S128x64 .f32 := dblRe broadcasts_S1x64_S64x64 0 concatenates_S64x64_S64x64_S128x64_d0 (t64Re a b) (t64Im a b) (p64Re a b) (p64Im a b)
/-- Powers below 128: imaginary parts. -/
def t128Im (a b : R1) : FVec Ideal S128x64 .f32 := dblIm broadcasts_S1x64_S64x64 0 concatenates_S64x64_S64x64_S128x64_d0 (t64Re a b) (t64Im a b) (p64Re a b) (p64Im a b)

/-- Power 128: real part. -/
def p128Re (a b : R1) : R1 := sqRe (p64Re a b) (p64Im a b)
/-- Power 128: imaginary part. -/
def p128Im (a b : R1) : R1 := sqIm (p64Re a b) (p64Im a b)
/-- Powers below 256: real parts. -/
def t256Re (a b : R1) : FVec Ideal S256x64 .f32 := dblRe broadcasts_S1x64_S128x64 0 concatenates_S128x64_S128x64_S256x64_d0 (t128Re a b) (t128Im a b) (p128Re a b) (p128Im a b)
/-- Powers below 256: imaginary parts. -/
def t256Im (a b : R1) : FVec Ideal S256x64 .f32 := dblIm broadcasts_S1x64_S128x64 0 concatenates_S128x64_S128x64_S256x64_d0 (t128Re a b) (t128Im a b) (p128Re a b) (p128Im a b)

/-- Power 256: real part. -/
def p256Re (a b : R1) : R1 := sqRe (p128Re a b) (p128Im a b)
/-- Power 256: imaginary part. -/
def p256Im (a b : R1) : R1 := sqIm (p128Re a b) (p128Im a b)
/-- Powers below 512: real parts. -/
def t512Re (a b : R1) : FVec Ideal S512x64 .f32 := dblRe broadcasts_S1x64_S256x64 0 concatenates_S256x64_S256x64_S512x64_d0 (t256Re a b) (t256Im a b) (p256Re a b) (p256Im a b)
/-- Powers below 512: imaginary parts. -/
def t512Im (a b : R1) : FVec Ideal S512x64 .f32 := dblIm broadcasts_S1x64_S256x64 0 concatenates_S256x64_S256x64_S512x64_d0 (t256Re a b) (t256Im a b) (p256Re a b) (p256Im a b)

/-- One channel from its tables: `p`, `q` the powers, `r`, `v` the inverse powers, `c`, `e` the weights, `u` the signal, `d` the skip weight. -/
def chan (p q r v : FVec Ideal S512x64 .f32) (c e : Vec Ideal S1x64 .f32) (u : Vec Ideal S1x128x512 .f32) (d : Vec Ideal S1x1 .f32) : FVec Ideal S1x128x512 .f32 :=
  k1_pay88 (k1_pay2) p q r v (rowOf c) (rowOf e) (mulf (broadcastTo S512x64 (rowOf c) broadcasts_S1x64_S512x64) p) (mulf (broadcastTo S512x64 (rowOf e) broadcasts_S1x64_S512x64) q) u d

/-- One channel from the rows the body reads. -/
def head (u : Vec Ideal S1x128x512 .f32) (c e w x r v : Vec Ideal S1x64 .f32) (d : Vec Ideal S1x1 .f32) : FVec Ideal S1x128x512 .f32 :=
  chan (t512Re (rowOf w) (rowOf x)) (t512Im (rowOf w) (rowOf x)) (t512Re (rowOf r) (rowOf v)) (t512Im (rowOf r) (rowOf v)) c e u d

theorem out1_8_eq (x0 : Vec Ideal S8x128x512 .f32) (x1 x2 x3 x4 x5 x6 : Vec Ideal S8x64 .f32) (x7 : Vec Ideal S8x1 .f32) :
    out1_8 x0 x1 x2 x3 x4 x5 x6 x7 = View.canon [⟨r1_22, head (View.ld x0 r1_22) (View.ld x1 r1_21) (View.ld x2 r1_21) (View.ld x3 r1_21) (View.ld x4 r1_21) (View.ld x5 r1_21) (View.ld x6 r1_21) (View.ld x7 r1_23)⟩,
      ⟨r1_19, head (View.ld x0 r1_19) (View.ld x1 r1_18) (View.ld x2 r1_18) (View.ld x3 r1_18) (View.ld x4 r1_18) (View.ld x5 r1_18) (View.ld x6 r1_18) (View.ld x7 r1_20)⟩,
      ⟨r1_16, head (View.ld x0 r1_16) (View.ld x1 r1_15) (View.ld x2 r1_15) (View.ld x3 r1_15) (View.ld x4 r1_15) (View.ld x5 r1_15) (View.ld x6 r1_15) (View.ld x7 r1_17)⟩,
      ⟨r1_13, head (View.ld x0 r1_13) (View.ld x1 r1_12) (View.ld x2 r1_12) (View.ld x3 r1_12) (View.ld x4 r1_12) (View.ld x5 r1_12) (View.ld x6 r1_12) (View.ld x7 r1_14)⟩,
      ⟨r1_10, head (View.ld x0 r1_10) (View.ld x1 r1_9) (View.ld x2 r1_9) (View.ld x3 r1_9) (View.ld x4 r1_9) (View.ld x5 r1_9) (View.ld x6 r1_9) (View.ld x7 r1_11)⟩,
      ⟨r1_7, head (View.ld x0 r1_7) (View.ld x1 r1_6) (View.ld x2 r1_6) (View.ld x3 r1_6) (View.ld x4 r1_6) (View.ld x5 r1_6) (View.ld x6 r1_6) (View.ld x7 r1_8)⟩,
      ⟨r1_4, head (View.ld x0 r1_4) (View.ld x1 r1_3) (View.ld x2 r1_3) (View.ld x3 r1_3) (View.ld x4 r1_3) (View.ld x5 r1_3) (View.ld x6 r1_3) (View.ld x7 r1_5)⟩,
      ⟨r1_1, head (View.ld x0 r1_1) (View.ld x1 r1_0) (View.ld x2 r1_0) (View.ld x3 r1_0) (View.ld x4 r1_0) (View.ld x5 r1_0) (View.ld x6 r1_0) (View.ld x7 r1_2)⟩] := rfl

theorem dblRe_at {n : Nat} (hb : S1x64.Broadcasts ⟨2, ![n, 64]⟩) (hc : Shape.Concatenates [⟨2, ![n, 64]⟩, ⟨2, ![n, 64]⟩] ⟨2, ![n + n, 64]⟩ 0)
    (p q : FVec Ideal ⟨2, ![n, 64]⟩ .f32) (a b : R1) (l : Fin (n + n)) (k : Fin 64) :
    dblRe hb 0 hc p q a b (ix2 l k) = if h : l.val < n then p (ix2 ⟨l.val, h⟩ k) else p (ix2 ⟨l.val - n, by omega⟩ k) * a (ix2 0 k) - q (ix2 ⟨l.val - n, by omega⟩ k) * b (ix2 0 k) := by
  pointwise [dblRe]
  split
  · exact congrArg p (funext fun a => by fin_cases a <;> rfl)
  · exact congrArg₂ (fun x y : EReal => x - y) (congrArg₂ (fun x y : EReal => x * y) (congrArg p (funext fun a => by fin_cases a <;> rfl)) rfl)
      (congrArg₂ (fun x y : EReal => x * y) (congrArg q (funext fun a => by fin_cases a <;> rfl)) rfl)
theorem dblIm_at {n : Nat} (hb : S1x64.Broadcasts ⟨2, ![n, 64]⟩) (hc : Shape.Concatenates [⟨2, ![n, 64]⟩, ⟨2, ![n, 64]⟩] ⟨2, ![n + n, 64]⟩ 0)
    (p q : FVec Ideal ⟨2, ![n, 64]⟩ .f32) (a b : R1) (l : Fin (n + n)) (k : Fin 64) :
    dblIm hb 0 hc p q a b (ix2 l k) = if h : l.val < n then q (ix2 ⟨l.val, h⟩ k) else p (ix2 ⟨l.val - n, by omega⟩ k) * b (ix2 0 k) + q (ix2 ⟨l.val - n, by omega⟩ k) * a (ix2 0 k) := by
  pointwise [dblIm]
  split
  · exact congrArg q (funext fun a => by fin_cases a <;> rfl)
  · exact congrArg₂ (fun x y : EReal => x + y) (congrArg₂ (fun x y : EReal => x * y) (congrArg p (funext fun a => by fin_cases a <;> rfl)) rfl)
      (congrArg₂ (fun x y : EReal => x * y) (congrArg q (funext fun a => by fin_cases a <;> rfl)) rfl)
theorem sqRe_at (a b : R1) (k : Fin 64) : sqRe a b (ix2 0 k) = a (ix2 0 k) * a (ix2 0 k) - b (ix2 0 k) * b (ix2 0 k) := by
  pointwise [sqRe]
theorem sqIm_at (a b : R1) (k : Fin 64) : sqIm a b (ix2 0 k) = Ideal.ofBits FTy.f32 1073741824#32 * a (ix2 0 k) * b (ix2 0 k) := by
  pointwise [sqIm]
theorem t2Re_at (a b : R1) (l : Fin 2) (k : Fin 64) : t2Re a b (ix2 l k) = if l.val < 1 then 1 else a (ix2 0 k) - 0 * b (ix2 0 k) := by
  pointwise [t2Re, one1, zero1]
  fin_cases l <;> rfl
theorem t2Im_at (a b : R1) (l : Fin 2) (k : Fin 64) : t2Im a b (ix2 l k) = if l.val < 1 then 0 else b (ix2 0 k) + 0 * a (ix2 0 k) := by
  pointwise [t2Im, one1, zero1]
  fin_cases l <;> rfl

/-- The row (`a`, `b`) holds the numbers `z`. -/
def Row (a b : R1) (z : Fin 64 → ℂ) : Prop := ∀ k, a (ix2 0 k) = (((z k).re : ℝ) : EReal) ∧ b (ix2 0 k) = (((z k).im : ℝ) : EReal)
/-- The table (`p`, `q`) holds the powers of `z`, by row. -/
def Tab {n : Nat} (p q : FVec Ideal ⟨2, ![n, 64]⟩ .f32) (z : Fin 64 → ℂ) : Prop :=
  ∀ (l : Fin n) k, p (ix2 l k) = (((z k ^ l.val).re : ℝ) : EReal) ∧ q (ix2 l k) = (((z k ^ l.val).im : ℝ) : EReal)

theorem Row.sq {a b : R1} {z : Fin 64 → ℂ} (h : Row a b z) : Row (sqRe a b) (sqIm a b) (fun k => z k * z k) := by
  intro k
  rw [sqRe_at, sqIm_at, (h k).1, (h k).2, Net.two_eq, Complex.mul_re, Complex.mul_im]
  simp only [← EReal.coe_mul, ← EReal.coe_sub]
  exact ⟨trivial, congrArg _ (by ring)⟩

theorem Row.sq_pow {a b : R1} {z : Fin 64 → ℂ} {n : Nat} (h : Row a b fun k => z k ^ n) : Row (sqRe a b) (sqIm a b) (fun k => z k ^ (n + n)) := by
  simp only [pow_add]; exact h.sq

theorem tab2 {a b : R1} {z : Fin 64 → ℂ} (h : Row a b z) : Tab (t2Re a b) (t2Im a b) z := by
  intro l k
  rw [t2Re_at, t2Im_at, (h k).1, (h k).2]
  fin_cases l <;> simp

theorem Tab.dbl {n : Nat} {hb : S1x64.Broadcasts ⟨2, ![n, 64]⟩} {hc : Shape.Concatenates [⟨2, ![n, 64]⟩, ⟨2, ![n, 64]⟩] ⟨2, ![n + n, 64]⟩ 0}
    {p q : FVec Ideal ⟨2, ![n, 64]⟩ .f32} {a b : R1} {z : Fin 64 → ℂ} (h : Tab p q z) (hr : Row a b fun k => z k ^ n) :
    Tab (dblRe hb 0 hc p q a b) (dblIm hb 0 hc p q a b) z := by
  intro l k
  rw [dblRe_at, dblIm_at, (hr k).1, (hr k).2]
  by_cases hl : l.val < n
  · rw [dif_pos hl, dif_pos hl]; exact h ⟨l.val, hl⟩ k
  · rw [dif_neg hl, dif_neg hl, (h _ k).1, (h _ k).2]
    have e : z k ^ l.val = z k ^ (l.val - n) * z k ^ n := by rw [← pow_add]; congr 1; omega
    rw [e, Complex.mul_re, Complex.mul_im]
    simp only [← EReal.coe_mul, ← EReal.coe_sub, ← EReal.coe_add]
    exact ⟨trivial, trivial⟩

/-- The nine doublings: the table of the first 512 powers. -/
theorem tab512 {a b : R1} {z : Fin 64 → ℂ} (h : Row a b z) : Tab (t512Re a b) (t512Im a b) z := by
  have r1 : Row a b fun k => z k ^ 1 := by simpa using h
  have r2 : Row (p2Re a b) (p2Im a b) fun k => z k ^ 2 := r1.sq_pow
  have r4 : Row (p4Re a b) (p4Im a b) fun k => z k ^ 4 := r2.sq_pow
  have r8 : Row (p8Re a b) (p8Im a b) fun k => z k ^ 8 := r4.sq_pow
  have r16 : Row (p16Re a b) (p16Im a b) fun k => z k ^ 16 := r8.sq_pow
  have r32 : Row (p32Re a b) (p32Im a b) fun k => z k ^ 32 := r16.sq_pow
  have r64 : Row (p64Re a b) (p64Im a b) fun k => z k ^ 64 := r32.sq_pow
  have r128 : Row (p128Re a b) (p128Im a b) fun k => z k ^ 128 := r64.sq_pow
  have r256 : Row (p256Re a b) (p256Im a b) fun k => z k ^ 256 := r128.sq_pow
  have t4 : Tab (t4Re a b) (t4Im a b) z := (tab2 h).dbl r2
  have t8 : Tab (t8Re a b) (t8Im a b) z := t4.dbl r4
  have t16 : Tab (t16Re a b) (t16Im a b) z := t8.dbl r8
  have t32 : Tab (t32Re a b) (t32Im a b) z := t16.dbl r16
  have t64 : Tab (t64Re a b) (t64Im a b) z := t32.dbl r32
  have t128 : Tab (t128Re a b) (t128Im a b) z := t64.dbl r64
  have t256 : Tab (t256Re a b) (t256Im a b) z := t128.dbl r128
  exact t256.dbl r256

theorem rowOf_at (x : Vec Ideal S1x64 .f32) (k : Fin 64) : rowOf x (ix2 0 k) = x (ix2 0 k) := by
  pointwise [rowOf]

theorem chan_at (p q r v : FVec Ideal S512x64 .f32) (c e : Vec Ideal S1x64 .f32) (u : Vec Ideal S1x128x512 .f32) (d : Vec Ideal S1x1 .f32) (b : Fin 128) (l : Fin 512) :
    chan p q r v c e u d (ix3 0 b l) = Net.gelu (∑ x : Fin 512,
          Scalar.select (IntOp.cmpi CmpIPredicate.sge (BitVec.ofNat 32 l.val) (BitVec.ofNat 32 x.val))
            (u (ix3 0 b x) *
              (Ideal.ofBits FTy.f32 1073741824#32 *
                (∑ k : Fin 64, (c (ix2 0 k) * p (ix2 l k) - e (ix2 0 k) * q (ix2 l k)) * r (ix2 x k) +
                  ∑ k : Fin 64, (c (ix2 0 k) * q (ix2 l k) + e (ix2 0 k) * p (ix2 l k)) * (0 - v (ix2 x k)))))
            0 +
        d (ix2 0 0) * u (ix3 0 b l)) := by
  unfold Net.gelu
  pointwise [chan, k1_pay88, k1_pay2, rowOf]
end Cert.KernelIdeal.Value
-- ==== Proof.ConvArr.lean ====
/- Custom call 1 (the convolutions): the array it leaves, in closed form over the arrays it finds. -/
module

public import proofs.«01_k».proof.Proof.Gen.KernelIdeal.Frame
public import proofs.«01_k».proof.Proof.Conv
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- Channel `j` of a block of signals. -/
def sl3 {n : Nat} (x : (⟨3, ![n, 128, 512]⟩ : Shape).Idx → EReal) (j : Fin n) : Vec Ideal S1x128x512 .f32 := fun y => x (ix3 j (y 1) (y 2))
/-- Channel `j` of a block of mode rows. -/
def sl2 {n : Nat} (x : (⟨2, ![n, 64]⟩ : Shape).Idx → EReal) (j : Fin n) : Vec Ideal S1x64 .f32 := fun y => x (ix2 j (y 1))
/-- Channel `j` of a column. -/
def sl1 {n : Nat} (x : (⟨2, ![n, 1]⟩ : Shape).Idx → EReal) (j : Fin n) : Vec Ideal S1x1 .f32 := fun _ => x (ix2 j 0)

/-- Every channel's output, over arrays of `n` channels. -/
def CV {n : Nat} (u : (⟨3, ![n, 128, 512]⟩ : Shape).Idx → EReal) (c e w x r v : (⟨2, ![n, 64]⟩ : Shape).Idx → EReal) (d : (⟨2, ![n, 1]⟩ : Shape).Idx → EReal) :
    (⟨3, ![n, 128, 512]⟩ : Shape).Idx → EReal := fun i =>
  head (sl3 u (i 0)) (sl2 c (i 0)) (sl2 e (i 0)) (sl2 w (i 0)) (sl2 x (i 0)) (sl2 r (i 0)) (sl2 v (i 0)) (sl1 d (i 0)) (ix3 0 (i 1) (i 2))

theorem ld3 {off : Fin 3 → Nat} {inb} (j : Fin 8) (h : off = ![j.val, 0, 0]) (x : Vec Ideal S8x128x512 .f32) :
    View.ld x (Rect.unit (s := S8x128x512) off S1x128x512.size inb) = sl3 x j := by
  subst h
  funext y
  idx_vars y
  refine congrArg x (funext fun a => Fin.ext ?_)
  fin_cases a
  · show j.val + 1 * y0.val = j.val; omega
  · show 0 + 1 * _ = _; rw [Nat.zero_add, Nat.one_mul]; rfl
  · show 0 + 1 * _ = _; rw [Nat.zero_add, Nat.one_mul]; rfl
theorem ld2 {off : Fin 2 → Nat} {inb} (j : Fin 8) (h : off = ![j.val, 0]) (x : Vec Ideal S8x64 .f32) :
    View.ld x (Rect.unit (s := S8x64) off S1x64.size inb) = sl2 x j := by
  subst h
  funext y
  idx_vars y
  refine congrArg x (funext fun a => Fin.ext ?_)
  fin_cases a
  · show j.val + 1 * y0.val = j.val; omega
  · show 0 + 1 * _ = _; rw [Nat.zero_add, Nat.one_mul]; rfl
theorem ld1 {off : Fin 2 → Nat} {inb} (j : Fin 8) (h : off = ![j.val, 0]) (x : Vec Ideal S8x1 .f32) :
    View.ld x (Rect.unit (s := S8x1) off S1x1.size inb) = sl1 x j := by
  subst h
  funext y
  idx_vars y
  refine congrArg x (funext fun a => Fin.ext ?_)
  fin_cases a
  · show j.val + 1 * y0.val = j.val; omega
  · show 0 + 1 * y1.val = 0; omega

/-- Channel `j`'s store, where it lands. -/
theorem tile (x0 : Vec Ideal S8x128x512 .f32) (x1 x2 x3 x4 x5 x6 : Vec Ideal S8x64 .f32) (x7 : Vec Ideal S8x1 .f32) (j : Fin 8) {off : Fin 3 → Nat} (h : off = ![j.val, 0, 0]) (y : S8x128x512.Idx) :
    View.TileAt (Val := Elt Ideal) (e := .f32) (S := S8x128x512) y off S1x128x512.size (head (sl3 x0 j) (sl2 x1 j) (sl2 x2 j) (sl2 x3 j) (sl2 x4 j) (sl2 x5 j) (sl2 x6 j) (sl1 x7 j)) (CV x0 x1 x2 x3 x4 x5 x6 x7 y) := by
  subst h
  intro z hx
  idx_vars z
  have hz : z0 = 0 := Fin.ext (by omega)
  subst hz
  have e : y = ix3 j z1 z2 := funext fun a => Fin.ext (by
    rw [hx a]; fin_cases a
    · show j.val + 0 = j.val; omega
    · show 0 + _ = _; rw [Nat.zero_add]; rfl
    · show 0 + _ = _; rw [Nat.zero_add]; rfl)
  rw [e]
  rfl

theorem out1_8_CV (x0 : Vec Ideal S8x128x512 .f32) (x1 x2 x3 x4 x5 x6 : Vec Ideal S8x64 .f32) (x7 : Vec Ideal S8x1 .f32) :
    out1_8 x0 x1 x2 x3 x4 x5 x6 x7 = CV x0 x1 x2 x3 x4 x5 x6 x7 := by
  rw [out1_8_eq]
  funext y
  refine View.canon_eq_of_allAt _ y _ (View.cover_of_tiled_head _ _ _ (by rfl) y) ?_
  refine View.allAt_cons_unit _ _ _ _ _ ?_ ?_
  · rw [ld3 (off := ![7, 0, 0]) 7 rfl, ld2 (off := ![7, 0]) 7 rfl, ld2 (off := ![7, 0]) 7 rfl, ld2 (off := ![7, 0]) 7 rfl, ld2 (off := ![7, 0]) 7 rfl, ld2 (off := ![7, 0]) 7 rfl, ld2 (off := ![7, 0]) 7 rfl, ld1 (off := ![7, 0]) 7 rfl]; exact tile x0 x1 x2 x3 x4 x5 x6 x7 7 rfl y
  refine View.allAt_cons_unit _ _ _ _ _ ?_ ?_
  · rw [ld3 (off := ![6, 0, 0]) 6 rfl, ld2 (off := ![6, 0]) 6 rfl, ld2 (off := ![6, 0]) 6 rfl, ld2 (off := ![6, 0]) 6 rfl, ld2 (off := ![6, 0]) 6 rfl, ld2 (off := ![6, 0]) 6 rfl, ld2 (off := ![6, 0]) 6 rfl, ld1 (off := ![6, 0]) 6 rfl]; exact tile x0 x1 x2 x3 x4 x5 x6 x7 6 rfl y
  refine View.allAt_cons_unit _ _ _ _ _ ?_ ?_
  · rw [ld3 (off := ![5, 0, 0]) 5 rfl, ld2 (off := ![5, 0]) 5 rfl, ld2 (off := ![5, 0]) 5 rfl, ld2 (off := ![5, 0]) 5 rfl, ld2 (off := ![5, 0]) 5 rfl, ld2 (off := ![5, 0]) 5 rfl, ld2 (off := ![5, 0]) 5 rfl, ld1 (off := ![5, 0]) 5 rfl]; exact tile x0 x1 x2 x3 x4 x5 x6 x7 5 rfl y
  refine View.allAt_cons_unit _ _ _ _ _ ?_ ?_
  · rw [ld3 (off := ![4, 0, 0]) 4 rfl, ld2 (off := ![4, 0]) 4 rfl, ld2 (off := ![4, 0]) 4 rfl, ld2 (off := ![4, 0]) 4 rfl, ld2 (off := ![4, 0]) 4 rfl, ld2 (off := ![4, 0]) 4 rfl, ld2 (off := ![4, 0]) 4 rfl, ld1 (off := ![4, 0]) 4 rfl]; exact tile x0 x1 x2 x3 x4 x5 x6 x7 4 rfl y
  refine View.allAt_cons_unit _ _ _ _ _ ?_ ?_
  · rw [ld3 (off := ![3, 0, 0]) 3 rfl, ld2 (off := ![3, 0]) 3 rfl, ld2 (off := ![3, 0]) 3 rfl, ld2 (off := ![3, 0]) 3 rfl, ld2 (off := ![3, 0]) 3 rfl, ld2 (off := ![3, 0]) 3 rfl, ld2 (off := ![3, 0]) 3 rfl, ld1 (off := ![3, 0]) 3 rfl]; exact tile x0 x1 x2 x3 x4 x5 x6 x7 3 rfl y
  refine View.allAt_cons_unit _ _ _ _ _ ?_ ?_
  · rw [ld3 (off := ![2, 0, 0]) 2 rfl, ld2 (off := ![2, 0]) 2 rfl, ld2 (off := ![2, 0]) 2 rfl, ld2 (off := ![2, 0]) 2 rfl, ld2 (off := ![2, 0]) 2 rfl, ld2 (off := ![2, 0]) 2 rfl, ld2 (off := ![2, 0]) 2 rfl, ld1 (off := ![2, 0]) 2 rfl]; exact tile x0 x1 x2 x3 x4 x5 x6 x7 2 rfl y
  refine View.allAt_cons_unit _ _ _ _ _ ?_ ?_
  · rw [ld3 (off := ![1, 0, 0]) 1 rfl, ld2 (off := ![1, 0]) 1 rfl, ld2 (off := ![1, 0]) 1 rfl, ld2 (off := ![1, 0]) 1 rfl, ld2 (off := ![1, 0]) 1 rfl, ld2 (off := ![1, 0]) 1 rfl, ld2 (off := ![1, 0]) 1 rfl, ld1 (off := ![1, 0]) 1 rfl]; exact tile x0 x1 x2 x3 x4 x5 x6 x7 1 rfl y
  refine View.allAt_cons_unit _ _ _ _ _ ?_ ?_
  · rw [ld3 (off := ![0, 0, 0]) 0 rfl, ld2 (off := ![0, 0]) 0 rfl, ld2 (off := ![0, 0]) 0 rfl, ld2 (off := ![0, 0]) 0 rfl, ld2 (off := ![0, 0]) 0 rfl, ld2 (off := ![0, 0]) 0 rfl, ld2 (off := ![0, 0]) 0 rfl, ld1 (off := ![0, 0]) 0 rfl]; exact tile x0 x1 x2 x3 x4 x5 x6 x7 0 rfl y
  exact View.allAt_nil y _

variable (V : (c : Dev nD) → (b : Ref sig .tc) → Buf (Elt Ideal) ((c : Thread nD τ).loc b))

/-- The windows' block indices. -/
theorem cvIdx : ∀ t : Fin cfg1.N, win1_0.index t = ![t.val, 0, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] ∧ win1_8.index t = ![t.val, 0, 0] ∧ t.val < 32 :=
  (by decide +kernel : ∀ t : Fin grid1.N, _)

/-- The channel that place `j` of block `t` is. -/
def cvRow (t : Fin cfg1.N) (j : Fin 8) : Fin 256 := ⟨t.val * 8 + j.val, by have := (cvIdx t).2.2.2.2.2.2.2.2.2; have := j.isLt; omega⟩

theorem rd1_0 (c : Dev nD) (t : Fin cfg1.N) (j : Fin 8) (b : Fin 128) (l : Fin 512) : iblk1 V c 0 t (ix3 j b l) = V c main_v43 (ix3 (cvRow t j) b l) := by blk_ext [iblk1, cvIdx t, cvRow]
theorem rd1_1 (c : Dev nD) (t : Fin cfg1.N) (j : Fin 8) (k : Fin 64) : iblk1 V c 1 t (ix2 j k) = V c main_v34 (ix2 (cvRow t j) k) := by blk_ext [iblk1, cvIdx t, cvRow]
theorem rd1_2 (c : Dev nD) (t : Fin cfg1.N) (j : Fin 8) (k : Fin 64) : iblk1 V c 2 t (ix2 j k) = V c main_v37 (ix2 (cvRow t j) k) := by blk_ext [iblk1, cvIdx t, cvRow]
theorem rd1_3 (c : Dev nD) (t : Fin cfg1.N) (j : Fin 8) (k : Fin 64) : iblk1 V c 3 t (ix2 j k) = V c main_v9 (ix2 (cvRow t j) k) := by blk_ext [iblk1, cvIdx t, cvRow]
theorem rd1_4 (c : Dev nD) (t : Fin cfg1.N) (j : Fin 8) (k : Fin 64) : iblk1 V c 4 t (ix2 j k) = V c main_v11 (ix2 (cvRow t j) k) := by blk_ext [iblk1, cvIdx t, cvRow]
theorem rd1_5 (c : Dev nD) (t : Fin cfg1.N) (j : Fin 8) (k : Fin 64) : iblk1 V c 5 t (ix2 j k) = V c main_v15 (ix2 (cvRow t j) k) := by blk_ext [iblk1, cvIdx t, cvRow]
theorem rd1_6 (c : Dev nD) (t : Fin cfg1.N) (j : Fin 8) (k : Fin 64) : iblk1 V c 6 t (ix2 j k) = V c main_v18 (ix2 (cvRow t j) k) := by blk_ext [iblk1, cvIdx t, cvRow]
theorem rd1_7 (c : Dev nD) (t : Fin cfg1.N) (j : Fin 8) : iblk1 V c 7 t (ix2 j 0) = V c main_v44 (ix2 (cvRow t j) 0) := by blk_ext [iblk1, cvIdx t, cvRow]
theorem em1_8 (t : Fin cfg1.N) (j : Fin 8) (b : Fin 128) (l : Fin 512) : ((cfg1.win 8).blk t).view.emb (ix3 j b l) = ix3 (cvRow t j) b l := by blk_ext [cvIdx t, cvRow]

/-- What the body stores at a point is the closed form at the place the store goes. -/
theorem point1 (c : Dev nD) (t : Fin cfg1.N) (j : Fin 8) (b : Fin 128) (l : Fin 512) :
    CV (n := 8) (iblk1 V c 0 t) (iblk1 V c 1 t) (iblk1 V c 2 t) (iblk1 V c 3 t) (iblk1 V c 4 t) (iblk1 V c 5 t) (iblk1 V c 6 t) (iblk1 V c 7 t) (ix3 j b l)
    = CV (n := 256) (V c main_v43) (V c main_v34) (V c main_v37) (V c main_v9) (V c main_v11) (V c main_v15) (V c main_v18) (V c main_v44) (((cfg1.win 8).blk t).view.emb (ix3 j b l)) := by
  rw [em1_8]
  have e0 : sl3 (n := 8) (iblk1 V c 0 t) j = sl3 (n := 256) (V c main_v43) (cvRow t j) := funext fun y => rd1_0 V c t j (y 1) (y 2)
  have e1 : sl2 (n := 8) (iblk1 V c 1 t) j = sl2 (n := 256) (V c main_v34) (cvRow t j) := funext fun y => rd1_1 V c t j (y 1)
  have e2 : sl2 (n := 8) (iblk1 V c 2 t) j = sl2 (n := 256) (V c main_v37) (cvRow t j) := funext fun y => rd1_2 V c t j (y 1)
  have e3 : sl2 (n := 8) (iblk1 V c 3 t) j = sl2 (n := 256) (V c main_v9) (cvRow t j) := funext fun y => rd1_3 V c t j (y 1)
  have e4 : sl2 (n := 8) (iblk1 V c 4 t) j = sl2 (n := 256) (V c main_v11) (cvRow t j) := funext fun y => rd1_4 V c t j (y 1)
  have e5 : sl2 (n := 8) (iblk1 V c 5 t) j = sl2 (n := 256) (V c main_v15) (cvRow t j) := funext fun y => rd1_5 V c t j (y 1)
  have e6 : sl2 (n := 8) (iblk1 V c 6 t) j = sl2 (n := 256) (V c main_v18) (cvRow t j) := funext fun y => rd1_6 V c t j (y 1)
  have e7 : sl1 (n := 8) (iblk1 V c 7 t) j = sl1 (n := 256) (V c main_v44) (cvRow t j) := funext fun y => rd1_7 V c t j
  show head (sl3 (n := 8) (iblk1 V c 0 t) j) (sl2 (n := 8) (iblk1 V c 1 t) j) (sl2 (n := 8) (iblk1 V c 2 t) j) (sl2 (n := 8) (iblk1 V c 3 t) j) (sl2 (n := 8) (iblk1 V c 4 t) j) (sl2 (n := 8) (iblk1 V c 5 t) j) (sl2 (n := 8) (iblk1 V c 6 t) j) (sl1 (n := 8) (iblk1 V c 7 t) j) (ix3 0 b l) = _
  rw [e0, e1, e2, e3, e4, e5, e6, e7]
  rfl

/-- The array custom call 1 leaves. -/
theorem final1 (c : Dev nD) : (dat1 V c).arrAt 8 cfg1.N = CV (n := 256) (V c main_v43) (V c main_v34) (V c main_v37) (V c main_v9) (V c main_v11) (V c main_v15) (V c main_v18) (V c main_v44) := by
  refine (dat1 V c).arrAt_eq_of_covers 8 _ (by decide +kernel) fun t _ y => ?_
  blk_simp
  rw [after1_8, out1_8_CV]
  have e : y = ix3 (y 0) (y 1) (y 2) := funext fun a => by fin_cases a <;> rfl
  rw [e]
  exact point1 V c t (y 0) (y 1) (y 2)
end Cert.KernelIdeal.Value
-- ==== Proof.Pool.lean ====
/- Custom call 2 (output linear layer, GLU, max over the sequence): the array it leaves, over the arrays it finds. -/
module

public import proofs.«01_k».proof.Proof.Gen.KernelIdeal.Frame
public import proofs.«01_k».proof.Proof.Defs2
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The windows' block indices. -/
theorem poIdx : ∀ t : Fin cfg2.N, win2_0.index t = ![0, t.val, 0] ∧ win2_1.index t = ![0, 0] ∧ win2_2.index t = ![0, 0]
    ∧ win2_3.index t = ![t.val, 0] ∧ t.val < 16 :=
  (by decide +kernel : ∀ t : Fin grid2.N, _)

/-- The pooled bag: sample by feature. -/
def PO (y : FVec Ideal S256x128x512 .f32) (w : FVec Ideal S256x512 .f32) (b : FVec Ideal S512x1 .f32) : FVec Ideal S128x256 .f32 := fun i =>
  Finset.fold max (Ideal.ofBits FTy.f32 4286578688#32) (fun l : Fin 512 =>
    (∑ k : Fin 256, w (ix2 k (Net.lo (i 1))) * y (ix3 k (i 0) l) + b (ix2 (Net.lo (i 1)) 0))
      * Ideal.logistic (∑ k : Fin 256, w (ix2 k (Net.hi (i 1))) * y (ix3 k (i 0) l) + b (ix2 (Net.hi (i 1)) 0))) Finset.univ

/-- What the body stores, at a coordinate. -/
theorem pay2 (y : Vec Ideal S256x8x512 .f32) (w : Vec Ideal S256x512 .f32) (b : Vec Ideal S512x1 .f32) (j : Fin 8) (h : Fin 256) :
    k2_pay1 y w b (ix2 j h) = Finset.fold max (Ideal.ofBits FTy.f32 4286578688#32) (fun l : Fin 512 =>
    (∑ k : Fin 256, w (ix2 k (Net.lo h)) * y (ix3 k j l) + b (ix2 (Net.lo h) 0))
      * Ideal.logistic (∑ k : Fin 256, w (ix2 k (Net.hi h)) * y (ix3 k j l) + b (ix2 (Net.hi h) 0))) Finset.univ := by
  pointwise [k2_pay1]
  rfl

variable (V : (c : Dev nD) → (b : Ref sig .tc) → Buf (Elt Ideal) ((c : Thread nD τ).loc b))

/-- The sample that place `j` of block `t` is. -/
def poRow (t : Fin cfg2.N) (j : Fin 8) : Fin 128 := ⟨t.val * 8 + j.val, by have := (poIdx t).2.2.2.2; have := j.isLt; omega⟩

theorem rd2_0 (c : Dev nD) (t : Fin cfg2.N) (k : Fin 256) (j : Fin 8) (l : Fin 512) :
    iblk2 V c 0 t (ix3 k j l) = V c main_v45 (ix3 k (poRow t j) l) := by blk_ext [iblk2, poIdx t, poRow]
theorem rd2_1 (c : Dev nD) (t : Fin cfg2.N) : iblk2 V c 1 t = V c main_arg11 := by blk_ext! [iblk2, poIdx t]
theorem rd2_2 (c : Dev nD) (t : Fin cfg2.N) : iblk2 V c 2 t = V c main_v46 := by blk_ext! [iblk2, poIdx t]
theorem em2_3 (t : Fin cfg2.N) (j : Fin 8) (h : Fin 256) :
    ((cfg2.win 3).blk t).view.emb (ix2 j h) = ix2 (poRow t j) h := by blk_ext [poIdx t, poRow]

/-- What the body stores at a point is the closed form at the place the store goes. -/
theorem point2 (c : Dev nD) (t : Fin cfg2.N) (y : S8x256.Idx) :
    k2_pay1 (iblk2 V c 0 t) (iblk2 V c 1 t) (iblk2 V c 2 t) y
    = PO (V c main_v45) (V c main_arg11) (V c main_v46) (((cfg2.win 3).blk t).view.emb y) := by
  idx_vars y
  rw [em2_3, pay2, rd2_1, rd2_2]
  unfold PO
  simp only [rd2_0]
  rfl

/-- The array custom call 2 leaves. -/
theorem final2 (c : Dev nD) : (dat2 V c).arrAt 3 cfg2.N = PO (V c main_v45) (V c main_arg11) (V c main_v46) := by
  refine (dat2 V c).arrAt_eq_of_covers 3 _ (by decide +kernel) fun t _ y => ?_
  blk_simp
  rw [after2_3]; frame_out
  exact point2 V c t y
end Cert.KernelIdeal.Value
-- ==== Proof.Graph.lean ====
/- Custom call 3 (the graph): what its body stores, with the ten selection rounds as one repeated step. -/
module

public import proofs.«01_k».proof.Proof.Gen.KernelIdeal.Frame
public import proofs.«01_k».proof.Proof.Ranks
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- A square array over the graph's nodes. -/
local notation "SQ" => FVec Ideal S640x640 FTy.f32

/-- The column numbers. -/
def colI : IVec S640x640 32 := iota .tc S640x640 32 [1] iota_S640x640_d1_w32
/-- The rows' maxima. -/
def rowMax (w : SQ) : FVec Ideal S640x1 .f32 :=
  shapeCast S640x1 (multiReduction .maximumf [1] S640 w 0xFF800000#32 reduces_S640x640_S640 (.inl rfl) rfl) shapeCasts_S640_S640x1
/-- Each row's first place holding its maximum, marked. -/
def pick (w : SQ) : IVec S640x640 1 :=
  cmpi .eq colI (broadcastTo S640x640 (shapeCast S640x1 (multiReductionI .minsi [1] S640
    (select (cmpf .oeq w (broadcastTo S640x640 (rowMax w) broadcasts_S640x1_S640x640)) colI (broadcast S640x640 640#32))
    2147483647#32 reduces_S640x640_S640 rfl) shapeCasts_S640_S640x1) broadcasts_S640x1_S640x640)
/-- The marked places struck out. -/
def strike (w : SQ) : SQ := select (pick w) (broadcast S640x640 (Scalar.ofBits (F := Ideal) .f32 0xFF800000#32)) w
/-- The array after `k` rounds. -/
def wk (s : SQ) : Nat → SQ
  | 0 => s
  | k + 1 => strike (wk s k)
/-- Round `k`'s maxima, exponentiated against the first round's. -/
def ek (s : SQ) (k : Nat) : FVec Ideal S640x1 .f32 := exp (subf (rowMax (wk s k)) (rowMax s))
/-- The sum of the exponentials through round `k`. -/
def tot (s : SQ) : Nat → FVec Ideal S640x1 .f32
  | 0 => ek s 0
  | k + 1 => addf (tot s k) (ek s (k + 1))
/-- Round `k`'s weights at the marked places. -/
def term (s : SQ) (k : Nat) : SQ :=
  select (pick (wk s k)) (broadcastTo S640x640 (shapeCast S640x1 (divf (ek s k) (tot s 9)) shapeCasts_S640x1_S640x1) broadcasts_S640x1_S640x640)
    (broadcast S640x640 (Scalar.ofBits (F := Ideal) .f32 0x00000000#32))
/-- The weight array after `k` rounds. -/
def wm (s : SQ) : Nat → SQ
  | 0 => broadcast S640x640 (Scalar.ofBits (F := Ideal) .f32 0x00000000#32)
  | k + 1 => addf (wm s k) (term s k)
/-- The graph's scores from the weight array. -/
def gOut (m : SQ) (bag : Vec Ideal S128x256 .f32) (w1 : FVec Ideal S256x256 .f32) (w2 : FVec Ideal S256x2 .f32) : FVec Ideal S128x2 .f32 :=
  k3_pay1 m (matmul (dot_S640x256_S256x256_S640x256_1_0_0_1_n_n) none (matmul dot_S640x128_S128x256_S640x256_1_0_0_1_n_n none
    (extractStridedSlice S640x128 ![0, 0] m slices_S640x640_o0_0_S640x128) (k3_pay2 bag) (constant S640x256 .f32 0x00000000#32)) w1
    (constant S640x256 .f32 0x00000000#32)) k3_pay52 w2

theorem out3_8_eq (x0 : Vec Ideal S128x256 .f32) (x1 : Vec Ideal S512x256 .f32) (x2 : Vec Ideal S256x256 .f32) (x3 : Vec Ideal S256x2 .f32) (x4 : Vec Ideal S1x2 .f32) (x5 : Vec Ideal S256x256 .f32) (x6 : Vec Ideal S256x2 .f32) :
    out3_8 x0 x1 x2 x3 x4 x5 x6 = View.canon [⟨r3_5, gOut (wm (k3_pay3 (View.ld x0 r3_0) (View.ld x1 r3_1) (View.ld x2 r3_2)) 10) (View.ld x0 r3_0) (View.ld x5 r3_2) (View.ld x6 r3_3)⟩] := rfl

theorem rowMax_at (w : SQ) (i : Fin 640) : rowMax w (ix2 i 0) = Finset.fold max (⊥ : EReal) (fun x : Fin 640 => w (ix2 i x)) Finset.univ := by
  rw [← Net.negInf_eq]
  pointwise [rowMax]
theorem pick_at (w : SQ) (i j : Fin 640) : pick w (ix2 i j) = IntOp.cmpi CmpIPredicate.eq (BitVec.ofNat 32 j.val)
      (Finset.fold IntOp.minsi (2147483647#32) (fun x : Fin 640 => if w (ix2 i x) = rowMax w (ix2 i 0) then BitVec.ofNat 32 x.val else 640#32) Finset.univ) := by
  pointwise [pick, colI]
theorem strike_at (w : SQ) (i j : Fin 640) : strike w (ix2 i j) = Scalar.select (pick w (ix2 i j)) (⊥ : EReal) (w (ix2 i j)) := by
  rw [← Net.negInf_eq]
  pointwise [strike]
theorem ek_at (w : SQ) (k : Nat) (i : Fin 640) : ek w k (ix2 i 0) = Ideal.exp (rowMax (wk w k) (ix2 i 0) - rowMax w (ix2 i 0)) := by
  pointwise [ek]
theorem term_at (w : SQ) (k : Nat) (i j: Fin 640) : term w k (ix2 i j) = Scalar.select (pick (wk w k) (ix2 i j)) (Ideal.div (ek w k (ix2 i 0)) (tot w 9 (ix2 i 0))) (0 : EReal) := by
  pointwise [term]
theorem gOut_at (m : SQ) (bag : Vec Ideal S128x256 .f32) (w1 : FVec Ideal S256x256 .f32) (w2 : FVec Ideal S256x2 .f32) (i : Fin 128) (j : Fin 2) :
    gOut m bag w1 w2 (ix2 i j) = ∑ x : Fin 256, (∑ y : Fin 640, m (ix2 (Net.node i) y)
      * max (∑ z : Fin 256, (∑ v : Fin 128, m (ix2 y (Net.node v)) * bag (ix2 v z)) * w1 (ix2 z x)) 0) * w2 (ix2 x j) := by
  pointwise [gOut, k3_pay1, k3_pay2, k3_pay52]
  rfl
/-- The similarity array. -/
theorem sim_at (a : Vec Ideal S128x256 .f32) (b : Vec Ideal S512x256 .f32) (c : Vec Ideal S256x256 .f32) (i j : Fin 640) :
    k3_pay3 a b c (ix2 i j) = ∑ x : Fin 256, (∑ y : Fin 256, (if h : i.val < 128 then a (ix2 ⟨i.val, h⟩ y) else b (ix2 ⟨i.val - 128, by omega⟩ y)) * c (ix2 y x))
      * ∑ y : Fin 256, (if h : j.val < 128 then a (ix2 ⟨j.val, h⟩ y) else b (ix2 ⟨j.val - 128, by omega⟩ y)) * c (ix2 y x) := by
  pointwise [k3_pay3, k3_pay2]
theorem lm_at (a : Vec Ideal S128x256 .f32) (b : Vec Ideal S256x2 .f32) (c : Vec Ideal S1x2 .f32) (i : Fin 128) (j : Fin 2) :
    k3_pay4 a b c (ix2 i j) = ∑ x : Fin 256, a (ix2 i x) * b (ix2 x j) + c (ix2 0 j) := by
  pointwise [k3_pay4, k3_pay2]

section Ranked
variable {f : Fin 640 → EReal} {p : Fin 640 → Fin 640} (hp : Net.Ranks f p) (s : SQ) (i : Fin 640)
include hp

/-- Row `i` after `k` rounds: the first `k` ranks struck out; round `k` finds rank `k`. -/
theorem round (hs : ∀ j, s (ix2 i j) = f j) : ∀ k : Nat, (∀ j, wk s k (ix2 i j) = Net.left f p k j) := by
  intro k
  induction k with
  | zero => intro j; show s (ix2 i j) = _; rw [hs, Net.left_zero]
  | succ k ih =>
    intro j
    show strike (wk s k) (ix2 i j) = _
    rw [strike_at, pick_at, rowMax_at]
    simp only [ih]
    by_cases hk : k < 640
    · rw [hp.fold_left hk, hp.fold_min hk, Net.left_succ hk]
    · rw [Net.left_all hp hk, Net.left_all hp (by omega : ¬ k + 1 < 640)]
      unfold Scalar.select; split <;> rfl

theorem rowMax_round (hs : ∀ j, s (ix2 i j) = f j) {k : Nat} (hk : k < 640) : rowMax (wk s k) (ix2 i 0) = f (p ⟨k, hk⟩) := by
  rw [rowMax_at]; simp only [round hp s i hs k]; exact hp.fold_left hk

theorem pick_round (hs : ∀ j, s (ix2 i j) = f j) {k : Nat} (hk : k < 640) (j : Fin 640) :
    pick (wk s k) (ix2 i j) = IntOp.cmpi CmpIPredicate.eq (BitVec.ofNat 32 j.val) (BitVec.ofNat 32 (p ⟨k, hk⟩).val) := by
  rw [pick_at, rowMax_at]; simp only [round hp s i hs k]; rw [hp.fold_left hk, hp.fold_min hk]

theorem ek_round (hs : ∀ j, s (ix2 i j) = f j) {k : Nat} (hk : k < 640) : ek s k (ix2 i 0) = Ideal.exp (f (p ⟨k, hk⟩) - f (p 0)) := by
  rw [ek_at, rowMax_round hp s i hs hk]
  have := rowMax_round hp s i hs (k := 0) (by omega)
  exact congrArg (fun y => Ideal.exp (_ - y)) this

theorem tot_round (hs : ∀ j, s (ix2 i j) = f j) : tot s 9 (ix2 i 0) = Net.total f p := by
  have e : ∀ k (hk : k < 10), tot s k (ix2 i 0) = ∑ a ∈ Finset.range (k + 1), if h : a < 640 then Ideal.exp (f (p ⟨a, h⟩) - f (p 0)) else 0 := by
    intro k
    induction k with
    | zero => intro _; rw [Finset.sum_range_one, dif_pos (by omega)]; exact ek_round hp s i hs (by omega)
    | succ k ih =>
      intro hk
      rw [Finset.sum_range_succ, ← ih (by omega), dif_pos (by omega)]
      show tot s k (ix2 i 0) + ek s (k + 1) (ix2 i 0) = _
      rw [ek_round hp s i hs (by omega)]
  rw [e 9 (by omega), ← Fin.sum_univ_eq_sum_range (fun a => if h : a < 640 then Ideal.exp (f (p ⟨a, h⟩) - f (p 0)) else 0) 10]
  unfold Net.total
  exact Finset.sum_congr rfl fun a _ => by rw [dif_pos (by have := a.isLt; omega)]; rfl

/-- The weight array's entry: the weight of the rank that has the column, if one of the ten has it. -/
theorem wm_round (hs : ∀ j, s (ix2 i j) = f j) (j : Fin 640) :
    wm s 10 (ix2 i j) = ∑ k : Fin 10, if p (Net.rk k) = j then Net.wgt f p k else 0 := by
  have e : ∀ k, k ≤ 10 → wm s k (ix2 i j) = ∑ a ∈ Finset.range k, if h : a < 10 then (if p (Net.rk ⟨a, h⟩) = j then Net.wgt f p ⟨a, h⟩ else 0) else 0 := by
    intro k
    induction k with
    | zero => intro _; rw [Finset.sum_range_zero]; exact Ideal.ofBits_zero_f32
    | succ k ih =>
      intro hk
      rw [Finset.sum_range_succ, ← ih (by omega), dif_pos (by omega)]
      refine congrArg (fun y : EReal => (show EReal from wm s k (ix2 i j)) + y) (?_ : term s k (ix2 i j) = _)
      rw [term_at, tot_round hp s i hs, ek_round hp s i hs (by omega), pick_round hp s i hs (by omega : k < 640), Net.select_eq]
      by_cases h : p (Net.rk ⟨k, by omega⟩) = j
      · rw [if_pos h]; exact if_pos (h.symm : j = p ⟨k, _⟩)
      · rw [if_neg h]; exact if_neg fun h' => h (Eq.symm h')
  rw [e 10 (le_refl _), ← Fin.sum_univ_eq_sum_range (fun a => if h : a < 10 then (if p (Net.rk ⟨a, h⟩) = j then Net.wgt f p ⟨a, h⟩ else 0) else 0) 10]
  exact Finset.sum_congr rfl fun a _ => by rw [dif_pos a.isLt]
end Ranked
end Cert.KernelIdeal.Value
-- ==== Proof.GraphArr.lean ====
/- Custom call 3 (the graph): the arrays it leaves, in closed form over the arrays it finds. -/
module

public import proofs.«01_k».proof.Proof.Gen.KernelIdeal.Frame
public import proofs.«01_k».proof.Proof.Graph
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- The windows' block indices. -/
theorem grIdx : ∀ t : Fin cfg3.N, win3_0.index t = ![0, 0] ∧ win3_1.index t = ![0, 0] ∧ win3_2.index t = ![0, 0] ∧ win3_3.index t = ![0, 0]
    ∧ win3_4.index t = ![0, 0] ∧ win3_5.index t = ![0, 0] ∧ win3_6.index t = ![0, 0] ∧ win3_7.index t = ![0, 0] ∧ win3_8.index t = ![0, 0] :=
  (by decide +kernel : ∀ t : Fin grid3.N, _)

theorem rd3_0 (c : Dev nD) (t : Fin cfg3.N) : iblk3 V c 0 t = V c main_v47 := by blk_ext! [iblk3, grIdx t]
theorem rd3_1 (c : Dev nD) (t : Fin cfg3.N) : iblk3 V c 1 t = V c main_v48 := by blk_ext! [iblk3, grIdx t]
theorem rd3_2 (c : Dev nD) (t : Fin cfg3.N) : iblk3 V c 2 t = V c main_arg15 := by blk_ext! [iblk3, grIdx t]
theorem rd3_3 (c : Dev nD) (t : Fin cfg3.N) : iblk3 V c 3 t = V c main_arg13 := by blk_ext! [iblk3, grIdx t]
theorem rd3_4 (c : Dev nD) (t : Fin cfg3.N) : iblk3 V c 4 t = V c main_v49 := by blk_ext! [iblk3, grIdx t]
theorem rd3_5 (c : Dev nD) (t : Fin cfg3.N) : iblk3 V c 5 t = V c main_arg16 := by blk_ext! [iblk3, grIdx t]
theorem rd3_6 (c : Dev nD) (t : Fin cfg3.N) : iblk3 V c 6 t = V c main_arg17 := by blk_ext! [iblk3, grIdx t]
theorem em3_7 (t : Fin cfg3.N) (i : Fin 128) (j : Fin 2) : ((cfg3.win 7).blk t).view.emb (ix2 i j) = ix2 i j := by blk_ext [grIdx t]
theorem em3_8 (t : Fin cfg3.N) (i : Fin 128) (j : Fin 2) : ((cfg3.win 8).blk t).view.emb (ix2 i j) = ix2 i j := by blk_ext [grIdx t]

/-- The scores of the linear head that custom call 3 leaves. -/
theorem final3_7 (c : Dev nD) : (dat3 V c).arrAt 7 cfg3.N = k3_pay4 (V c main_v47) (V c main_arg13) (V c main_v49) := by
  refine (dat3 V c).arrAt_eq_of_covers 7 _ (by decide +kernel) fun t _ y => ?_
  blk_simp
  rw [after3_7]; frame_out
  idx_vars y
  rw [em3_7, rd3_0, rd3_3, rd3_4]

/-- The graph's scores from whole arrays. -/
theorem out3_8_whole (x0 : Vec Ideal S128x256 .f32) (x1 : Vec Ideal S512x256 .f32) (x2 : Vec Ideal S256x256 .f32) (x3 : Vec Ideal S256x2 .f32) (x4 : Vec Ideal S1x2 .f32) (x5 : Vec Ideal S256x256 .f32) (x6 : Vec Ideal S256x2 .f32) :
    out3_8 x0 x1 x2 x3 x4 x5 x6 = gOut (wm (k3_pay3 x0 x1 x2) 10) x0 x5 x6 := by
  rw [out3_8_eq, View.ld_unit_lit inb_S128x256_S128x256_0_0 x0 (by decide), View.ld_unit_lit inb_S512x256_S512x256_0_0 x1 (by decide), View.ld_unit_lit inb_S256x256_S256x256_0_0 x2 (by decide),
    View.ld_unit_lit inb_S256x256_S256x256_0_0 x5 (by decide), View.ld_unit_lit inb_S256x2_S256x2_0_0 x6 (by decide)]
  exact View.canon_cons_unit_lit inb_S128x2_S128x2_0_0 _ [] (by decide)

/-- The graph's scores that custom call 3 leaves. -/
theorem final3_8 (c : Dev nD) : (dat3 V c).arrAt 8 cfg3.N = gOut (wm (k3_pay3 (V c main_v47) (V c main_v48) (V c main_arg15)) 10) (V c main_v47) (V c main_arg16) (V c main_arg17) := by
  refine (dat3 V c).arrAt_eq_of_covers 8 _ (by decide +kernel) fun t _ y => ?_
  blk_simp
  rw [after3_8, out3_8_whole]
  idx_vars y
  rw [em3_8, rd3_0, rd3_1, rd3_2, rd3_5, rd3_6]
end Cert.KernelIdeal.Value
-- ==== Proof.KerV.lean ====
/- The kernel's arrays, stage by stage, are the mathematics' stages. -/
module

public import proofs.«01_k».proof.Proof.Gen.KernelIdeal.Frame
public import proofs.«01_k».proof.Proof.Entry
public import proofs.«01_k».proof.Proof.Sel
public import proofs.«01_k».proof.Proof.Fc
public import proofs.«01_k».proof.Proof.ConvArr
public import proofs.«01_k».proof.Proof.Pool
public import proofs.«01_k».proof.Proof.GraphArr
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The rows of the growth factors, as powers. -/
theorem rows {A : Net.In} (h : Fin 256) {X Y : Fin 64 → ℝ} (hX : ∀ k, A.dr h k = (X k : EReal)) (hY : ∀ k, A.di h k = (Y k : EReal))
    (w x : (⟨2, ![256, 64]⟩ : Shape).Idx → EReal) (hw : ∀ k, w (ix2 h k) = Ideal.exp (A.dr h k) * Ideal.cos (A.di h k)) (hx : ∀ k, x (ix2 h k) = Ideal.exp (A.dr h k) * Ideal.sin (A.di h k)) :
    Row (rowOf (sl2 w h)) (rowOf (sl2 x h)) (fun k => Complex.exp ⟨X k, Y k⟩) := by
  intro k
  rw [rowOf_at, rowOf_at]
  constructor
  · show w (ix2 h k) = _
    rw [hw, hX, hY, Complex.exp_re, EReal.coe_mul]; rfl
  · show x (ix2 h k) = _
    rw [hx, hX, hY, Complex.exp_im, EReal.coe_mul]; rfl
theorem rowsInv {A : Net.In} (h : Fin 256) {X Y : Fin 64 → ℝ} (hX : ∀ k, A.dr h k = (X k : EReal)) (hY : ∀ k, A.di h k = (Y k : EReal))
    (w x : (⟨2, ![256, 64]⟩ : Shape).Idx → EReal) (hw : ∀ k, w (ix2 h k) = Ideal.exp (-A.dr h k) * Ideal.cos (A.di h k)) (hx : ∀ k, x (ix2 h k) = -Ideal.exp (-A.dr h k) * Ideal.sin (A.di h k)) :
    Row (rowOf (sl2 w h)) (rowOf (sl2 x h)) (fun k => Complex.exp (-⟨X k, Y k⟩)) := by
  intro k
  rw [rowOf_at, rowOf_at]
  constructor
  · show w (ix2 h k) = _
    rw [hw, hX, hY, Complex.exp_re, EReal.coe_mul, Complex.neg_re, Complex.neg_im, Real.cos_neg]; rfl
  · show x (ix2 h k) = _
    rw [hx, hX, hY, Complex.exp_im, Complex.neg_re, Complex.neg_im, Real.sin_neg, mul_neg, ← neg_mul, EReal.coe_mul, EReal.coe_neg]; rfl

/-- The array custom call 1 leaves is the activated convolution. -/
theorem CV_ya {A : Net.In} (ok : Net.Ok A) (u : (⟨3, ![256, 128, 512]⟩ : Shape).Idx → EReal) (c e w x r v : (⟨2, ![256, 64]⟩ : Shape).Idx → EReal) (d : (⟨2, ![256, 1]⟩ : Shape).Idx → EReal)
    (hu : ∀ h b l, u (ix3 h b l) = A.ln b l h)
    (hc : ∀ h k, c (ix2 h k) = A.cre h k * Ideal.div (A.er h k * A.are h k + A.ei h k * A.aim h k) (A.den h k)
      - A.cim h k * Ideal.div (A.ei h k * A.are h k - A.er h k * A.aim h k) (A.den h k))
    (he : ∀ h k, e (ix2 h k) = A.cre h k * Ideal.div (A.ei h k * A.are h k - A.er h k * A.aim h k) (A.den h k)
      + A.cim h k * Ideal.div (A.er h k * A.are h k + A.ei h k * A.aim h k) (A.den h k))
    (hw : ∀ h k, w (ix2 h k) = Ideal.exp (A.dr h k) * Ideal.cos (A.di h k)) (hx : ∀ h k, x (ix2 h k) = Ideal.exp (A.dr h k) * Ideal.sin (A.di h k))
    (hr : ∀ h k, r (ix2 h k) = Ideal.exp (-A.dr h k) * Ideal.cos (A.di h k)) (hv : ∀ h k, v (ix2 h k) = -Ideal.exp (-A.dr h k) * Ideal.sin (A.di h k))
    (hd : ∀ h, d (ix2 h 0) = A.D h) (h : Fin 256) (b : Fin 128) (l : Fin 512) :
    CV u c e w x r v d (ix3 h b l) = A.ya b h l := by
  choose X hX using ok.dr h
  choose Y hY using ok.di h
  choose C E hC hE hC' hE' using Net.coef ok h
  have T1 := tab512 (rows h hX hY w x (hw h) (hx h))
  have T2 := tab512 (rowsInv h hX hY r v (hr h) (hv h))
  have ec : ∀ k, sl2 c h (ix2 0 k) = (C k : EReal) := fun k => (hc h k).trans (hC' k)
  have ee : ∀ k, sl2 e h (ix2 0 k) = (E k : EReal) := fun k => (he h k).trans (hE' k)
  show head (sl3 u h) (sl2 c h) (sl2 e h) (sl2 w h) (sl2 x h) (sl2 r h) (sl2 v h) (sl1 d h) (ix3 0 b l) = _
  unfold head
  rw [chan_at]
  refine congrArg Net.gelu ?_
  unfold Net.In.conv
  refine congrArg₂ (fun y z : EReal => y + z) (Finset.sum_congr rfl fun t _ => ?_) ?_
  · rw [Net.select_sge]
    by_cases hl : t ≤ l
    · rw [if_pos hl, dif_pos hl]
      refine congrArg₂ (fun y z : EReal => y * z) (hu h b t) ?_
      rw [← Net.lag ok h l t hl X Y C E hX hY hC hE (fun k => Complex.exp ⟨X k, Y k⟩ ^ l.val) (fun k => Complex.exp (-⟨X k, Y k⟩) ^ t.val) (fun _ => rfl) (fun _ => rfl)]
      simp only [ec, ee, fun k => (T1 l k).1, fun k => (T1 l k).2, fun k => (T2 t k).1, fun k => (T2 t k).2]
    · rw [if_neg hl, dif_neg hl, mul_zero]
  · rw [mul_comm]
    exact congrArg₂ (fun y z : EReal => y * z) (hu h b l) (hd h)

variable (m : (ℓ : Loc nD τ sig) → Buf (Elt Ideal) ℓ) (ρ : Dev nD → PrngReg) (c : Dev nD) (ok : Net.Ok (inp m c))
include ok

/-- Custom call 0 leaves the normalised features. -/
theorem s42 (h : Fin 256) (b : Fin 128) (l : Fin 512) : W2 m ρ c (Proc.devRef .tc main_v42) (ix2 h (flat b l)) = (inp m c).ln b l h := by
  have e1 : W1 m ρ c (Proc.devRef .tc main_arg1) = m ((c : Thread nD τ).loc main_arg1) := W1_args m ρ c main_arg1 (by decide)
  have e : W2 m ρ c (Proc.devRef .tc main_v42) = FC (W1 m ρ c (Proc.devRef .tc main_v38)) (W1 m ρ c (Proc.devRef .tc main_arg1)) (W1 m ρ c (Proc.devRef .tc main_v39)) (W1 m ρ c (Proc.devRef .tc main_v40)) (W1 m ρ c (Proc.devRef .tc main_v41)) :=
    (W2_arr m ρ c 5).trans (final0 (V1 m ρ) c)
  rw [e, e1]
  show Net.lnK (fun h' => max (∑ k : Fin 256, (inp m c).fw k h' * (W1 m ρ c (Proc.devRef .tc main_v38) (ix2 (flat b l) k) : EReal) + W1 m ρ c (Proc.devRef .tc main_v39) (ix2 h' 0)) 0)
    (W1 m ρ c (Proc.devRef .tc main_v40) (ix2 h 0)) (W1 m ρ c (Proc.devRef .tc main_v41) (ix2 h 0)) h = _
  rw [e40, e41]
  have ef : (fun h' : Fin 256 => max (∑ k : Fin 256, (inp m c).fw k h' * (W1 m ρ c (Proc.devRef .tc main_v38) (ix2 (flat b l) k) : EReal) + W1 m ρ c (Proc.devRef .tc main_v39) (ix2 h' 0)) (0 : EReal)) = (inp m c).hid b l := by
    funext h'
    rw [e39]
    refine congrArg (fun y : EReal => max (y + (inp m c).fb h') 0) (Finset.sum_congr rfl fun k _ => ?_)
    rw [e38]
    exact mul_comm _ _
  rw [ef]
  exact Net.lnK_eq_lnR _ _ _ h

/-- An array the first host stretch leaves, still there when custom call 1 is entered. -/
theorem kept (r : Ref sig .tc) (h1 : r ∉ hostOps1_W) (h2 : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h2)

/-- Custom call 1 leaves the activated convolution. -/
theorem s45 (h : Fin 256) (b : Fin 128) (l : Fin 512) : W4 m ρ c (Proc.devRef .tc main_v45) (ix3 h b l) = (inp m c).ya b h l := by
  have e : W4 m ρ c (Proc.devRef .tc main_v45) = CV (n := 256) (W3 m ρ c (Proc.devRef .tc main_v43)) (W3 m ρ c (Proc.devRef .tc main_v34)) (W3 m ρ c (Proc.devRef .tc main_v37)) (W3 m ρ c (Proc.devRef .tc main_v9))
      (W3 m ρ c (Proc.devRef .tc main_v11)) (W3 m ρ c (Proc.devRef .tc main_v15)) (W3 m ρ c (Proc.devRef .tc main_v18)) (W3 m ρ c (Proc.devRef .tc main_v44)) :=
    (W4_arr m ρ c 8).trans (final1 (V3 m ρ) c)
  rw [e, kept m ρ c ok main_v34 (by decide) (by decide +kernel), kept m ρ c ok main_v37 (by decide) (by decide +kernel), kept m ρ c ok main_v9 (by decide) (by decide +kernel),
    kept m ρ c ok main_v11 (by decide) (by decide +kernel), kept m ρ c ok main_v15 (by decide) (by decide +kernel), kept m ρ c ok main_v18 (by decide) (by decide +kernel)]
  exact CV_ya ok _ _ _ _ _ _ _ _ (fun h b l => (e43 m ρ c h b l).trans (s42 m ρ c ok h b l)) (e34 m ρ c) (e37 m ρ c) (e9 m ρ c) (e11 m ρ c) (e15 m ρ c) (e18 m ρ c) (e44 m ρ c) h b l

/-- Custom call 2 leaves the bag. -/
theorem s47 (b : Fin 128) (h : Fin 256) : W6 m ρ c (Proc.devRef .tc main_v47) (ix2 b h) = (inp m c).bag b h := by
  have e1 : W5 m ρ c (Proc.devRef .tc main_arg11) = m ((c : Thread nD τ).loc main_arg11) := W5_args m ρ c main_arg11 (by decide)
  have e2 : W5 m ρ c (Proc.devRef .tc main_v45) = W4 m ρ c (Proc.devRef .tc main_v45) := W5_of m ρ c main_v45 (by decide)
  have e : W6 m ρ c (Proc.devRef .tc main_v47) = PO (W5 m ρ c (Proc.devRef .tc main_v45)) (W5 m ρ c (Proc.devRef .tc main_arg11)) (W5 m ρ c (Proc.devRef .tc main_v46)) :=
    (W6_arr m ρ c 3).trans (final2 (V5 m ρ) c)
  have eg : ∀ (l : Fin 512) (k : Fin 512), (∑ h : Fin 256, (inp m c).ow h k * (W4 m ρ c (Proc.devRef .tc main_v45) (ix3 h b l) : EReal) + W5 m ρ c (Proc.devRef .tc main_v46) (ix2 k 0) : EReal) = (inp m c).glu b l k := fun l k => by
    rw [e46]
    refine congrArg (fun y : EReal => y + (inp m c).ob k) (Finset.sum_congr rfl fun h _ => ?_)
    rw [s45 m ρ c ok]
    exact mul_comm _ _
  rw [e, e1, e2]
  show Finset.fold max (Ideal.ofBits FTy.f32 4286578688#32) (fun l : Fin 512 =>
    (∑ k : Fin 256, (inp m c).ow k (Net.lo h) * (W4 m ρ c (Proc.devRef .tc main_v45) (ix3 k b l) : EReal) + W5 m ρ c (Proc.devRef .tc main_v46) (ix2 (Net.lo h) 0))
      * Ideal.logistic (∑ k : Fin 256, (inp m c).ow k (Net.hi h) * (W4 m ρ c (Proc.devRef .tc main_v45) (ix3 k b l) : EReal) + W5 m ρ c (Proc.devRef .tc main_v46) (ix2 (Net.hi h) 0))) Finset.univ = _
  rw [Net.negInf_eq]
  unfold Net.In.bag
  refine congrArg (fun f => Finset.fold max (⊥ : EReal) f (Finset.univ : Finset (Fin 512))) (funext fun l => ?_)
  exact congrArg₂ (fun y z : EReal => y * Ideal.logistic z) (eg l _) (eg l _)

theorem s47' (b : Fin 128) (h : Fin 256) : W7 m ρ c (Proc.devRef .tc main_v47) (ix2 b h) = (inp m c).bag b h := by
  rw [W7_of m ρ c main_v47 (by decide)]; exact s47 m ρ c ok b h

/-- Custom call 3 leaves the linear head's scores. -/
theorem s50_0 (b : Fin 128) (o : Fin 2) : W8 m ρ c (Proc.devRef .tc main_v50_0) (ix2 b o) = (inp m c).lm b o := by
  have e1 : W7 m ρ c (Proc.devRef .tc main_arg13) = m ((c : Thread nD τ).loc main_arg13) := W7_args m ρ c main_arg13 (by decide)
  have e : W8 m ρ c (Proc.devRef .tc main_v50_0) = k3_pay4 (W7 m ρ c (Proc.devRef .tc main_v47)) (W7 m ρ c (Proc.devRef .tc main_arg13)) (W7 m ρ c (Proc.devRef .tc main_v49)) :=
    (W8_arr m ρ c 7).trans (final3_7 (V7 m ρ) c)
  rw [e, e1, lm_at, e49]
  refine congrArg (fun y : EReal => y + (inp m c).f2b o) (Finset.sum_congr rfl fun d _ => ?_)
  rw [s47' m ρ c ok]
  rfl

/-- The similarities custom call 3 works with. -/
theorem sSim (i j : Fin 640) : k3_pay3 (W7 m ρ c (Proc.devRef .tc main_v47)) (W7 m ρ c (Proc.devRef .tc main_v48)) (W7 m ρ c (Proc.devRef .tc main_arg15)) (ix2 i j) = (inp m c).sim i j := by
  have e1 : W7 m ρ c (Proc.devRef .tc main_arg15) = m ((c : Thread nD τ).loc main_arg15) := W7_args m ρ c main_arg15 (by decide)
  have ex : ∀ (i : Fin 640) (y : Fin 256), (if h : i.val < 128 then W7 m ρ c (Proc.devRef .tc main_v47) (ix2 ⟨i.val, h⟩ y) else W7 m ρ c (Proc.devRef .tc main_v48) (ix2 ⟨i.val - 128, by omega⟩ y) : EReal) = (inp m c).xc i y := fun i y => by
    unfold Net.In.xc
    by_cases h : i.val < 128
    · rw [dif_pos h, dif_pos h]; exact s47' m ρ c ok _ _
    · rw [dif_neg h, dif_neg h]; exact e48 m ρ c _ _
  rw [sim_at, e1]
  unfold Net.In.sim Net.In.emb
  refine Finset.sum_congr rfl fun f _ => congrArg₂ (fun y z : EReal => y * z) (Finset.sum_congr rfl fun d _ => ?_) (Finset.sum_congr rfl fun d _ => ?_)
  · exact congrArg (fun y : EReal => y * (inp m c).dsl d f) (ex i d)
  · exact congrArg (fun y : EReal => y * (inp m c).dsl d f) (ex j d)

/-- Custom call 3 leaves the graph's scores, the neighbours by any listing of each row from its largest entry down. -/
theorem s50_1 (p : Fin 640 → Fin 640 → Fin 640) (hp : ∀ i, Net.Ranks ((inp m c).sim i) (p i)) (b : Fin 128) (o : Fin 2) :
    W8 m ρ c (Proc.devRef .tc main_v50_1) (ix2 b o) = (inp m c).lg p (Net.node b) o := by
  have e1 : W7 m ρ c (Proc.devRef .tc main_arg16) = m ((c : Thread nD τ).loc main_arg16) := W7_args m ρ c main_arg16 (by decide)
  have e2 : W7 m ρ c (Proc.devRef .tc main_arg17) = m ((c : Thread nD τ).loc main_arg17) := W7_args m ρ c main_arg17 (by decide)
  have e : W8 m ρ c (Proc.devRef .tc main_v50_1) = gOut (wm (k3_pay3 (W7 m ρ c (Proc.devRef .tc main_v47)) (W7 m ρ c (Proc.devRef .tc main_v48)) (W7 m ρ c (Proc.devRef .tc main_arg15))) 10)
      (W7 m ρ c (Proc.devRef .tc main_v47)) (W7 m ρ c (Proc.devRef .tc main_arg16)) (W7 m ρ c (Proc.devRef .tc main_arg17)) :=
    (W8_arr m ρ c 8).trans (final3_8 (V7 m ρ) c)
  have ew : ∀ i j : Fin 640, wm (k3_pay3 (W7 m ρ c (Proc.devRef .tc main_v47)) (W7 m ρ c (Proc.devRef .tc main_v48)) (W7 m ρ c (Proc.devRef .tc main_arg15))) 10 (ix2 i j)
      = ∑ k : Fin 10, if p i (Net.rk k) = j then Net.wgt ((inp m c).sim i) (p i) k else 0 := fun i j =>
    wm_round (hp i) _ i (fun j => sSim m ρ c ok i j) j
  have hrk : Function.Injective Net.rk := fun a b h => Fin.ext (by have := congrArg Fin.val h; exact this)
  have hq : ∀ i, Function.Injective fun k : Fin 10 => p i (Net.rk k) := fun i => (hp i).bij.1.comp hrk
  have ea : ∀ (i : Fin 640) (z : Fin 256), (∑ v : Fin 128, wm (k3_pay3 (W7 m ρ c (Proc.devRef .tc main_v47)) (W7 m ρ c (Proc.devRef .tc main_v48)) (W7 m ρ c (Proc.devRef .tc main_arg15))) 10 (ix2 i (Net.node v))
      * W7 m ρ c (Proc.devRef .tc main_v47) (ix2 v z) : EReal) = (inp m c).agg p (inp m c).x0 i z := fun i z => by
    unfold Net.In.agg
    rw [← Net.dense_row (fun k => p i (Net.rk k)) (hq i) (Net.wgt ((inp m c).sim i) (p i)) (fun j => (inp m c).x0 j z)]
    rw [show (∑ j : Fin 640, (∑ k : Fin 10, if p i (Net.rk k) = j then Net.wgt ((inp m c).sim i) (p i) k else 0) * (inp m c).x0 j z)
      = ∑ v : Fin 128, (∑ k : Fin 10, if p i (Net.rk k) = Net.node v then Net.wgt ((inp m c).sim i) (p i) k else 0) * (inp m c).bag v z from ?_]
    · exact Finset.sum_congr rfl fun v _ => congrArg₂ (fun y z : EReal => y * z) (ew i _) (s47' m ρ c ok v z)
    · rw [Fin.sum_univ_add (a := 128) (b := 512) (fun j : Fin 640 => (∑ k : Fin 10, if p i (Net.rk k) = j then Net.wgt ((inp m c).sim i) (p i) k else 0) * (inp m c).x0 j z)]
      have z0 : ∀ j : Fin 512, (inp m c).x0 (Fin.natAdd 128 j) z = 0 := fun j => by
        unfold Net.In.x0; exact dif_neg (by show ¬ (128 + j.val < 128); omega)
      have z1 : ∀ j : Fin 128, (inp m c).x0 (Fin.castAdd 512 j) z = (inp m c).bag j z := fun j => by
        unfold Net.In.x0; exact dif_pos j.isLt
      rw [Finset.sum_eq_zero (s := (Finset.univ : Finset (Fin 512))) fun j _ => by rw [z0, mul_zero], add_zero]
      exact Finset.sum_congr rfl fun v _ => by rw [z1]; rfl
  rw [e, gOut_at, e1, e2]
  unfold Net.In.lg
  refine Finset.sum_congr (M := EReal) rfl fun d _ => congrArg (fun y : EReal => y * (inp m c).w2 d o) ?_
  unfold Net.In.agg
  rw [← Net.dense_row (fun k => p (Net.node b) (Net.rk k)) (hq (Net.node b)) (Net.wgt ((inp m c).sim (Net.node b)) (p (Net.node b))) (fun j => (inp m c).lay p j d)]
  refine Finset.sum_congr (M := EReal) rfl fun j _ => congrArg₂ (fun y z : EReal => y * z) (ew _ j) ?_
  unfold Net.In.lay
  refine congrArg (fun y : EReal => max y 0) (Finset.sum_congr rfl fun z _ => congrArg (fun y : EReal => y * (inp m c).w1 z d) (ea j z))
end Cert.KernelIdeal.Value
-- ==== Proof.KRun.lean ====
/- The kernel's run, with the contents its two result arrays end with. -/
module

public import proofs.«01_k».proof.Proof.Gen.KernelIdeal.Frame
public import Idealize.ShloMosaic.PureOps.Ideal

@[expose] public section

set_option maxRecDepth 16384
noncomputable section
namespace Cert.KernelIdeal.Value
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the two results at the last boundary's contents and the arguments as launched. -/
theorem run : θ_run (defs (F := Ideal)) (onTc (τ := τ) (main (F := Ideal))) ⟨m, fun _ => 0, ρ⟩ (fun r => ∀ c : Dev nD,
      r.2.mem ((c.tc : Thread nD τ).loc main_v50_0) = W8 m ρ c (Proc.devRef .tc main_v50_0)
       ∧ r.2.mem ((c.tc : Thread nD τ).loc main_v50_1) = W8 m ρ c (Proc.devRef .tc main_v50_1)
       ∧ r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3)
       ∧ r.2.mem ((c.tc : Thread nD τ).loc main_arg4) = m ((c.tc : Thread nD τ).loc main_arg4)
       ∧ r.2.mem ((c.tc : Thread nD τ).loc main_arg5) = m ((c.tc : Thread nD τ).loc main_arg5)
       ∧ r.2.mem ((c.tc : Thread nD τ).loc main_arg6) = m ((c.tc : Thread nD τ).loc main_arg6)
       ∧ r.2.mem ((c.tc : Thread nD τ).loc main_arg7) = m ((c.tc : Thread nD τ).loc main_arg7)
       ∧ r.2.mem ((c.tc : Thread nD τ).loc main_arg8) = m ((c.tc : Thread nD τ).loc main_arg8)
       ∧ r.2.mem ((c.tc : Thread nD τ).loc main_arg9) = m ((c.tc : Thread nD τ).loc main_arg9)
       ∧ r.2.mem ((c.tc : Thread nD τ).loc main_arg10) = m ((c.tc : Thread nD τ).loc main_arg10)
       ∧ r.2.mem ((c.tc : Thread nD τ).loc main_arg11) = m ((c.tc : Thread nD τ).loc main_arg11)
       ∧ r.2.mem ((c.tc : Thread nD τ).loc main_arg12) = m ((c.tc : Thread nD τ).loc main_arg12)
       ∧ r.2.mem ((c.tc : Thread nD τ).loc main_arg13) = m ((c.tc : Thread nD τ).loc main_arg13)
       ∧ r.2.mem ((c.tc : Thread nD τ).loc main_arg14) = m ((c.tc : Thread nD τ).loc main_arg14)
       ∧ r.2.mem ((c.tc : Thread nD τ).loc main_arg15) = m ((c.tc : Thread nD τ).loc main_arg15)
       ∧ r.2.mem ((c.tc : Thread nD τ).loc main_arg16) = m ((c.tc : Thread nD τ).loc main_arg16)
       ∧ r.2.mem ((c.tc : Thread nD τ).loc main_arg17) = m ((c.tc : Thread nD τ).loc main_arg17)
       ∧ r.2.mem ((c.tc : Thread nD τ).loc main_arg18) = m ((c.tc : Thread nD τ).loc main_arg18)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨h c _ (mem_uc main_v50_0 (by decide)), h c _ (mem_uc main_v50_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)
end Cert.KernelIdeal.Value
-- ==== Proof.PreR.lean ====
/- The precondition, read: the arguments are finite and no pole is zero. -/
module

public import proofs.«01_k».proof.Defs
public import proofs.«01_k».proof.Proof.Entry
public import Idealize.ShloMosaic.Lib.ReduceAll

@[expose] public section

set_option maxRecDepth 16384
noncomputable section
open Idealize.ShloMosaic Idealize.ShloMosaic.TcCoe Idealize.SL.Sem
namespace Cert.Pre_finite_and_poles

/-- The shape relations the predicate states. -/
theorem facts : Facts where
  h_S_ := by decide
  bcast_S_S256x256 := by decide
  reducesTo_S256x256_S_d0_1 := by decide
  bcast_S_S256 := by decide
  reducesTo_S256_S_d0 := by decide
  bcast_S_S256x64 := by decide
  reducesTo_S256x64_S_d0_1 := by decide
  bcast_S_S256x512 := by decide
  reducesTo_S256x512_S_d0_1 := by decide
  bcast_S_S512 := by decide
  reducesTo_S512_S_d0 := by decide
  bcast_S_S2x256x256 := by decide
  reducesTo_S2x256x256_S_d0_1_2 := by decide

/-- One array's check: every element's size is below infinity. -/
abbrev Fin1 {s : Shape} (x : FVec Ideal s .f32) (hb : S_.BroadcastsInDim s (![] : Fin 0 → Fin s.rank)) {ax : List (Fin s.rank)} (hr : s.ReducesTo ax S_) (hu : 0 < S_.numel) : IVec S_ 1 :=
  Host.reduce IntOp.andi (cmpf .olt (Host.absf x) (broadcastInDim s ![] hb (constant (F := Ideal) S_ .f32 0x7F800000#32))) (constantI S_ 1 1#1) hr hu

theorem fin1 {s : Shape} (x : FVec Ideal s .f32) (hb : S_.BroadcastsInDim s (![] : Fin 0 → Fin s.rank)) {ax : List (Fin s.rank)} (hr : s.ReducesTo ax S_) (hu : 0 < S_.numel)
    (h : Fin1 x hb hr hu ix0 = 1#1) (i : s.Idx) : Net.IsR (x i) := by
  haveI : Subsingleton S_.Idx := ⟨fun a b => funext fun k => k.elim0⟩
  have e := Host.reduce_andi_all _ _ hr hu ix0 h i
  refine Net.IsR.of_abs ?_
  have e' : BitVec.ofBool (decide (max (x i) (-x i) < Ideal.ofBits FTy.f32 2139095040#32)) = 1#1 := e
  rw [Net.posInf_eq] at e'
  by_contra hn
  rw [decide_eq_false hn] at e'
  exact absurd e' (by decide)

/-- Every element is below infinity. -/
theorem below1 {s : Shape} (x : FVec Ideal s .f32) (hb : S_.BroadcastsInDim s (![] : Fin 0 → Fin s.rank)) {ax : List (Fin s.rank)} (hr : s.ReducesTo ax S_) (hu : 0 < S_.numel)
    (h : Host.reduce IntOp.andi (cmpf .olt x (broadcastInDim s ![] hb (constant (F := Ideal) S_ .f32 0x7F800000#32))) (constantI S_ 1 1#1) hr hu ix0 = 1#1) (i : s.Idx) : x i < ⊤ := by
  haveI : Subsingleton S_.Idx := ⟨fun a b => funext fun k => k.elim0⟩
  have e := Host.reduce_andi_all _ _ hr hu ix0 h i
  have e' : BitVec.ofBool (decide (x i < Ideal.ofBits FTy.f32 2139095040#32)) = 1#1 := e
  rw [Net.posInf_eq] at e'
  by_contra hn
  rw [decide_eq_false hn] at e'
  exact absurd e' (by decide)

theorem and1 {x y : IVec S_ 1} (h : andi x y ix0 = 1#1) : x ix0 = 1#1 ∧ y ix0 = 1#1 := IntOp.andi_eq_one.1 h

theorem pole1 (x y : FVec Ideal S256x64 .f32) (hb : S_.BroadcastsInDim S256x64 (![] : Fin 0 → Fin S256x64.rank)) {ax : List (Fin S256x64.rank)} (hr : S256x64.ReducesTo ax S_) (hu : 0 < S_.numel)
    (h : Host.reduce IntOp.andi (ori (cmpf .une x (broadcastInDim S256x64 ![] hb (constant (F := Ideal) S_ .f32 0x00000000#32))) (cmpf .une y (broadcastInDim S256x64 ![] hb (constant (F := Ideal) S_ .f32 0x00000000#32)))) (constantI S_ 1 1#1) hr hu ix0 = 1#1) (i : S256x64.Idx) :
    x i ≠ 0 ∨ y i ≠ 0 := by
  haveI : Subsingleton S_.Idx := ⟨fun a b => funext fun k => k.elim0⟩
  have e := Host.reduce_andi_all _ _ hr hu ix0 h i
  have e' : IntOp.ori (BitVec.ofBool (decide (x i ≠ Ideal.ofBits FTy.f32 0#32))) (BitVec.ofBool (decide (y i ≠ Ideal.ofBits FTy.f32 0#32))) = 1#1 := e
  rw [show Ideal.ofBits FTy.f32 0#32 = 0 by simp [Ideal.ofBits, Ideal.ieee]] at e'
  by_contra hn
  rw [not_or, not_not, not_not] at hn
  rw [hn.1, hn.2] at e'
  simp at e'
  exact absurd e' (by decide)

/-- The precondition is what the mathematics asks of the arguments. -/
theorem ok (m : (ℓ : Loc Cert.KernelIdeal.nD Cert.KernelIdeal.τ Cert.KernelIdeal.sig) → Buf (Elt Ideal) ℓ) (h : Cert.Pre_KernelIdeal_finite_and_poles (hPre_finite_and_poles := facts) m) (c : Dev Cert.KernelIdeal.nD) :
    Net.Ok (Cert.KernelIdeal.Value.inp m c) := by
  haveI := facts
  have e := congrFun (h c) ix0
  unfold fn fn_part1 fn_part2 fn_part3 at e
  dsimp only at e
  obtain ⟨e, hp⟩ := and1 e
  obtain ⟨e, h18⟩ := and1 e
  obtain ⟨e, h15⟩ := and1 e
  obtain ⟨e, h12⟩ := and1 e
  obtain ⟨e, h11⟩ := and1 e
  obtain ⟨e, h10⟩ := and1 e
  obtain ⟨e, h9⟩ := and1 e
  obtain ⟨e, h8⟩ := and1 e
  obtain ⟨e, h7⟩ := and1 e
  obtain ⟨e, h6⟩ := and1 e
  obtain ⟨e, h5⟩ := and1 e
  obtain ⟨e, h4⟩ := and1 e
  exact {
    g := fun a => fin1 _ _ _ _ e (ix1 a)
    be := fun a => fin1 _ _ _ _ h4 (ix1 a)
    ldt := fun a => below1 _ _ _ _ h5 (ix1 a)
    are := fun a b => fin1 _ _ _ _ h6 (ix2 a b)
    aim := fun a b => fin1 _ _ _ _ h7 (ix2 a b)
    cre := fun a b => fin1 _ _ _ _ h8 (ix2 a b)
    cim := fun a b => fin1 _ _ _ _ h9 (ix2 a b)
    D := fun a => fin1 _ _ _ _ h10 (ix1 a)
    ow := fun a b => fin1 _ _ _ _ h11 (ix2 a b)
    ob := fun a => fin1 _ _ _ _ h12 (ix1 a)
    dsl := fun a b => fin1 _ _ _ _ h15 (ix2 a b)
    reh := fun a b d => fin1 _ _ _ _ h18 (ix3 a b d)
    pole := fun a b => pole1 _ _ _ _ _ hp (ix2 a b) }
end Cert.Pre_finite_and_poles
-- ==== Proof.RefA.lean ====
/- The reference's stages up to the pooled bag, at coordinates. -/
module

public import proofs.«01_k».proof.Proof.Gen.ReferenceIdeal.Run
public import proofs.«01_k».proof.Proof.Spec
public import proofs.«01_k».proof.Proof.Sel
public import Idealize.ShloMosaic.Lib.Pointwise

@[expose] public section

set_option maxRecDepth 16384
noncomputable section
open Idealize.ShloMosaic Idealize.ShloMosaic.TcCoe Idealize.SL.Sem
namespace Cert.ReferenceIdeal.Value
open Cert.ReferenceIdeal Cert.ReferenceIdeal.Gen
variable (V0 : Valuation τ sig (Elt Ideal))

/-- The arguments as the mathematics takes them. -/
def inp : Net.In where
  x b l k := V0 (Proc.devRef .tc main_arg0) (ix3 b l k)
  fw k h := V0 (Proc.devRef .tc main_arg1) (ix2 k h)
  fb h := V0 (Proc.devRef .tc main_arg2) (ix1 h)
  g h := V0 (Proc.devRef .tc main_arg3) (ix1 h)
  be h := V0 (Proc.devRef .tc main_arg4) (ix1 h)
  ldt h := V0 (Proc.devRef .tc main_arg5) (ix1 h)
  are h k := V0 (Proc.devRef .tc main_arg6) (ix2 h k)
  aim h k := V0 (Proc.devRef .tc main_arg7) (ix2 h k)
  cre h k := V0 (Proc.devRef .tc main_arg8) (ix2 h k)
  cim h k := V0 (Proc.devRef .tc main_arg9) (ix2 h k)
  D h := V0 (Proc.devRef .tc main_arg10) (ix1 h)
  ow h k := V0 (Proc.devRef .tc main_arg11) (ix2 h k)
  ob k := V0 (Proc.devRef .tc main_arg12) (ix1 k)
  f2 h o := V0 (Proc.devRef .tc main_arg13) (ix2 h o)
  f2b o := V0 (Proc.devRef .tc main_arg14) (ix1 o)
  dsl k h := V0 (Proc.devRef .tc main_arg15) (ix2 k h)
  w1 k h := V0 (Proc.devRef .tc main_arg16) (ix2 k h)
  w2 h o := V0 (Proc.devRef .tc main_arg17) (ix2 h o)
  reh n j d := V0 (Proc.devRef .tc main_arg18) (ix3 n j d)

theorem at5 (b : Fin 128) (l : Fin 512) (h : Fin 256) : res_main_v5 V0 (ix3 b l h) = (inp V0).hid b l h := by
  pointwise [res_main_v5]
  rfl
theorem at78 (b : Fin 128) (h : Fin 256) (l : Fin 512) : res_main_v78 V0 (ix3 b h l) = (inp V0).ln b l h := by
  pointwise [res_main_v78, res_main_call0_v5, res_main_call0_v8]
  simp only [at5]
  have e0 : (FloatOps.sitofp (F := Ideal) FTy.f32 (0#32 : BitVec 32) : EReal) = 0 := by
    show (((0#32 : BitVec 32).toInt : ℝ) : EReal) = 0
    simp
  have ec : Ideal.ofBits FTy.f32 1132462080#32 - (FloatOps.sitofp (F := Ideal) FTy.f32 (0#32 : BitVec 32) : EReal) = Net.c256 := by
    rw [e0, sub_zero]; rfl
  have ep : (0 : EReal) < Net.c256 := by
    rw [Net.c256_eq]; exact_mod_cast (by norm_num : (0 : ℝ) < 256)
  rw [ec, if_pos ep]
  rfl
theorem at27 (h : Fin 256) (k : Fin 64) : res_main_v27 V0 (ix2 h k) = (inp V0).dr h k := by
  pointwise [res_main_v27, res_main_v24]
  rfl
theorem at30 (h : Fin 256) (k : Fin 64) : res_main_v30 V0 (ix2 h k) = (inp V0).di h k := by
  pointwise [res_main_v30, res_main_v24]
  rfl
theorem at35 (h : Fin 256) (k : Fin 64) : res_main_v35 V0 (ix2 h k) = (inp V0).er h k := by
  pointwise [res_main_v35]
  rw [at27, at30]
  rfl
theorem at38 (h : Fin 256) (k : Fin 64) : res_main_v38 V0 (ix2 h k) = (inp V0).ei h k := by
  pointwise [res_main_v38]
  rw [at27, at30]
  rfl
theorem at41 (h : Fin 256) (k : Fin 64) : res_main_v41 V0 (ix2 h k) = (inp V0).nr h k := by
  pointwise [res_main_v41]
  rw [at35, at38]
  rfl
theorem at44 (h : Fin 256) (k : Fin 64) : res_main_v44 V0 (ix2 h k) = (inp V0).ni h k := by
  pointwise [res_main_v44]
  rw [at35, at38]
  rfl
theorem at47 (h : Fin 256) (k : Fin 64) : res_main_v47 V0 (ix2 h k) = (inp V0).den h k := by
  pointwise [res_main_v47]
  rfl
theorem at57 (n : Fin 512) : res_main_v57 V0 (ix1 n) = ((n.val : ℝ) : EReal) := by
  have hn := n.isLt
  show (((BitVec.ofNat 32 n.val).toInt : ℝ) : EReal) = _
  rw [Net.toInt_ofNat (by omega)]
  simp
theorem at63 (h : Fin 256) (k : Fin 64) (n : Fin 512) : res_main_v63 V0 (ix3 h k n) = Ideal.exp ((inp V0).dr h k * ((n.val : ℝ) : EReal)) := by
  pointwise [res_main_v63]
  rw [at27, at57]
theorem at68 (h : Fin 256) (k : Fin 64) (n : Fin 512) : res_main_v68 V0 (ix3 h k n) = (inp V0).di h k * ((n.val : ℝ) : EReal) := by
  pointwise [res_main_v68]
  rw [at30, at57]
/-- The reference's table of convolution kernels. -/
def kTab (v41 v44 v47 are aim : FVec Ideal S256x64 .f32) (v63 v68 : FVec Ideal S256x64x512 .f32) : FVec Ideal S256x512 .f32 :=
  mulf (broadcastInDim S256x512 ![] bcast_S_S256x512 (constant S_ .f32 1073741824#32))
    (subf (Host.dotGeneral dot_S256x64_S256x64x512_S256x512_1_1_n_2_0_0 none (Host.divf (addf (mulf v41 are) (mulf v44 aim)) v47) (mulf v63 (Host.cos v68)))
      (Host.dotGeneral dot_S256x64_S256x64x512_S256x512_1_1_n_2_0_0 none (Host.divf (subf (mulf v44 are) (mulf v41 aim)) v47) (mulf v63 (Host.sin v68))))
theorem kTab_at (h : Fin 256) (n : Fin 512) :
    kTab (res_main_v41 V0) (res_main_v44 V0) (res_main_v47 V0) (V0 (Proc.devRef .tc main_arg6)) (V0 (Proc.devRef .tc main_arg7)) (res_main_v63 V0) (res_main_v68 V0) (ix2 h n) = (inp V0).ker h n := by
  pointwise [kTab]
  simp only [at41, at44, at47, at63, at68]
  rfl
/-- The lookup of a kernel table along its second axis. -/
theorem toeplitz {α : Type} (x : S256x512.Idx → α) (idx : IVec S512x512x1 32) (h : Fin 256) (l t n : Fin 512) (hn : idx (ix3 l t 0) = BitVec.ofNat 32 n.val) :
    Host.gather gather_S256x512_S512x512x1_S256x512x512_0_1_n_n_1_2_2561 x idx (ix3 h l t) = x (ix2 h n) := by
  have hlt := n.isLt
  have hsi : ∀ c, gather_S256x512_S512x512x1_S256x512x512_0_1_n_n_1_2_2561.siIdx (ix3 h l t) c = ix3 l t 0 := fun c => by
    funext b
    match b with
    | ⟨0, _⟩ => rfl
    | ⟨1, _⟩ => rfl
    | ⟨2, _⟩ => exact Subsingleton.elim (α := Fin 1) _ _
  unfold Host.gather
  refine congrArg x (funext fun a => Fin.ext ?_)
  match a with
  | ⟨0, _⟩ =>
    show GatherDims.start _ (ix3 h l t) idx 0 + GatherDims.batchCoord _ (ix3 h l t) 0 + GatherDims.offCoord _ (ix3 h l t) 0 = h.val
    rw [GatherDims.batchCoord_eq_zero _ _ _ (fun h => by exact absurd h List.not_mem_nil)]
    unfold GatherDims.start
    rw [dif_neg (show ¬ (0 : Fin 2) ∈ gather_S256x512_S512x512x1_S256x512x512_0_1_n_n_1_2_2561.startIndexMap from by decide)]
    simp only [Nat.zero_add]
    rfl
  | ⟨1, _⟩ =>
    show GatherDims.start _ (ix3 h l t) idx 1 + GatherDims.batchCoord _ (ix3 h l t) 1 + GatherDims.offCoord _ (ix3 h l t) 1 = n.val
    rw [GatherDims.batchCoord_eq_zero _ _ _ (fun h => by exact absurd h List.not_mem_nil)]
    have ho : GatherDims.offCoord gather_S256x512_S512x512x1_S256x512x512_0_1_n_n_1_2_2561 (ix3 h l t) 1 = 0 := rfl
    rw [ho]
    unfold GatherDims.start
    rw [dif_pos (show (1 : Fin 2) ∈ gather_S256x512_S512x512x1_S256x512x512_0_1_n_n_1_2_2561.startIndexMap from List.mem_singleton.2 rfl)]
    rw [hsi, hn, Net.toInt_ofNat (by omega)]
    show min ((n.val : Int)).toNat 511 + 0 + 0 = n.val
    omega
theorem at85 (l t : Fin 512) : res_main_v85 V0 (ix2 l t) = IntOp.subi (BitVec.ofNat 32 l.val) (BitVec.ofNat 32 t.val) := by
  pointwise [res_main_v85]
theorem at89 (l t : Fin 512) : res_main_v89 V0 (ix2 l t) = IntOp.maxsi (IntOp.subi (BitVec.ofNat 32 l.val) (BitVec.ofNat 32 t.val)) 0#32 := by
  pointwise [res_main_v89]
  rw [at85]
theorem at103 (b : Fin 128) (h : Fin 256) (l : Fin 512) : res_main_v103 V0 (ix3 b h l) = (inp V0).conv b h l := by
  pointwise [res_main_v103]
  unfold Net.In.conv
  refine congrArg₂ (fun y z : EReal => y + z) (Finset.sum_congr rfl fun t _ => congrArg₂ (fun y z : EReal => y * z) (at78 V0 b h t) ?_)
    (congrArg (fun y : EReal => y * (inp V0).D h) (at78 V0 b h l))
  rw [at85, Net.select_lag]
  by_cases hl : t ≤ l
  · rw [if_pos hl, dif_pos hl]
    rw [toeplitz _ _ h l t ⟨l.val - t.val, by omega⟩ ?_]
    · exact kTab_at V0 h _
    · show Scalar.select (IntOp.cmpi CmpIPredicate.slt (res_main_v89 V0 (ix2 l t)) 0#32) (IntOp.addi (res_main_v89 V0 (ix2 l t)) 512#32) (res_main_v89 V0 (ix2 l t)) = _
      rw [at89]
      exact Net.lag_idx l t hl
  · rw [if_neg hl, dif_neg hl]
    show Ideal.ofBits FTy.f32 0#32 = 0
    simp [Ideal.ofBits, Ideal.ieee]
theorem at121 (b : Fin 128) (l : Fin 512) (h : Fin 512) : res_main_v121 V0 (ix3 b l h) = (inp V0).glu b l h := by
  pointwise [res_main_v121]
  simp only [at103]
  unfold Net.In.glu
  refine congrArg (fun y : EReal => y + (inp V0).ob h) (Finset.sum_congr rfl fun x _ => congrArg (fun y : EReal => y * (inp V0).ow x h) ?_)
  unfold Net.In.ya Net.gelu
  rw [mul_assoc ((inp V0).conv b x l) ((inp V0).conv b x l) ((inp V0).conv b x l)]
theorem at131 (b : Fin 128) (h : Fin 256) : res_main_v131 V0 (ix2 b h) = (inp V0).bag b h := by
  pointwise [res_main_v131]
  simp only [at121]
  rw [Net.negInf_eq]
  rfl
end Cert.ReferenceIdeal.Value
-- ==== Proof.RefB.lean ====
/- The reference's graph stages and its two results, at coordinates. -/
module

public import proofs.«01_k».proof.Proof.RefA
public import Idealize.ShloMosaic.Lib.SortFacts
public import Idealize.ShloMosaic.Lib.Routing.Ops
public import Idealize.ShloMosaic.Lib.Routing.OpsPair
public import Idealize.ShloMosaic.Lib.Routing.OpsSet

@[expose] public section

set_option maxRecDepth 16384
noncomputable section
open Idealize.ShloMosaic Idealize.ShloMosaic.TcCoe Idealize.SL.Sem
open scoped BigOperators
namespace Net

/-- Place `b` is listed before place `c`: the larger entry, or the earlier of two equal ones. -/
def First {n : Nat} (f : Fin n → EReal) (b c : Fin n) : Prop := f c < f b ∨ (f c = f b ∧ b < c)

section sorting
variable {n : Nat} (f : Fin n → EReal) (R : Fin n → Fin n → Bool) (hR : ∀ a b, R a b = true ↔ f b < f a)
include hR

/-- Placing an earlier place in a listed row keeps it listed. -/
theorem listed_insert (a : Fin n) (l : List (Fin n)) (ha : ∀ b ∈ l, a < b) (hl : l.Pairwise (First f)) : (insertBefore R a l).Pairwise (First f) := by
  induction l with
  | nil => exact List.pairwise_singleton _ _
  | cons b l ih =>
    have hb := List.pairwise_cons.mp hl
    unfold insertBefore
    split
    · rename_i h
      refine List.pairwise_cons.mpr ⟨fun c hc => ?_, ih (fun c hc => ha c (List.mem_cons_of_mem _ hc)) hb.2⟩
      rcases List.mem_cons.mp ((perm_insertBefore R a l).mem_iff.mp hc) with rfl | hc'
      · exact Or.inl ((hR _ _).mp h)
      · exact hb.1 c hc'
    · rename_i h
      have hle : f b ≤ f a := not_lt.mp fun h' => h ((hR _ _).mpr h')
      refine List.pairwise_cons.mpr ⟨fun c hc => ?_, hl⟩
      have hc' : f c ≤ f a := by
        rcases List.mem_cons.mp hc with rfl | hc'
        · exact hle
        · rcases hb.1 c hc' with h' | h'
          · exact h'.le.trans hle
          · exact h'.1.le.trans hle
      rcases hc'.lt_or_eq with h' | h'
      · exact Or.inl h'
      · exact Or.inr ⟨h', ha c hc⟩

theorem listed_sort (l : List (Fin n)) (hl : l.Pairwise (· < ·)) : (stableSort R l).Pairwise (First f) := by
  induction l with
  | nil => exact List.Pairwise.nil
  | cons a l ih =>
    have ha := List.pairwise_cons.mp hl
    exact listed_insert f R hR a _ (fun b hb => ha.1 b ((perm_stableSort R l).mem_iff.mp hb)) (ih ha.2)

theorem listed_from (i j : Fin n) (h : i < j) : First f (sortedFrom R i) (sortedFrom R j) := by
  have hp := List.pairwise_iff_get.mp (listed_sort f R hR (List.finRange n) (List.pairwise_lt_finRange n))
  exact hp _ _ h
end sorting

/-- The largest of ten values of which the first is the largest. -/
theorem fold_first (g : Fin 10 → EReal) (h : ∀ k, g k ≤ g 0) : Finset.fold max (⊥ : EReal) g Finset.univ = g 0 :=
  le_antisymm ((Finset.fold_max_le _).mpr ⟨bot_le, fun k _ => h k⟩) ((Finset.le_fold_max _).mpr (Or.inr ⟨0, Finset.mem_univ _, le_refl _⟩))
end Net

namespace Cert.ReferenceIdeal.Value
open Cert.ReferenceIdeal Cert.ReferenceIdeal.Gen

/-- The order in which the largest entries of a row are taken. -/
def ord (x : FVec Ideal S640x640 .f32) (i : Fin 640) : Fin 640 → Fin 640 :=
  sortedFrom fun k k' => FloatOps.cmpfTotal (F := Ideal) .gt (x (ix2 i k)) (x (ix2 i k')) == 1#1

theorem ord_ranks (x : FVec Ideal S640x640 .f32) (i : Fin 640) (hb : ∀ j, x (ix2 i j) ≠ (⊥ : EReal)) : Net.Ranks (fun j => x (ix2 i j)) (ord x i) where
  bij := ⟨sortedFrom_injective _, sortedFrom_surjective _⟩
  ord a b h := by
    refine Net.listed_from (fun j => x (ix2 i j)) _ (fun a b => ?_) a b h
    show (BitVec.ofBool (decide ((x (ix2 i b) : EReal) < x (ix2 i a))) == 1#1) = true ↔ _
    by_cases h : (x (ix2 i b) : EReal) < x (ix2 i a)
    · simp [h]
    · simp [h]
  bot := hb

theorem slice0 {α : Type} (y : S640x640.Idx → α) (h : S640x640.Slices (fun _ => 0) S640x10) (i : Fin 640) (k : Fin 10) :
    extractStridedSlice S640x10 (fun _ => 0) y h (ix2 i k) = y (ix2 i (Net.rk k)) := by
  unfold extractStridedSlice
  refine congrArg y (funext fun a => Fin.ext ?_)
  match a with
  | ⟨0, _⟩ => exact Nat.zero_add _
  | ⟨1, _⟩ => exact Nat.zero_add _

theorem along1 (i j q : Fin 640) : Shape.Idx.along (s := S640x640) (ix2 i j) (1 : Fin 2) q = ix2 i q := by
  funext a
  match a with
  | ⟨0, _⟩ => rfl
  | ⟨1, _⟩ => rfl

/-- The sort of a row's pairs, at a place. -/
theorem sort_at (x : FVec Ideal S640x640 .f32) (y : IVec S640x640 32) (i j : Fin 640) :
    (Host.sort2 S640x640 1 (fun l r => FloatOps.cmpfTotal (F := Ideal) .gt l.1 r.1) x y).1 (ix2 i j) = x (ix2 i (ord x i j))
    ∧ (Host.sort2 S640x640 1 (fun l r => FloatOps.cmpfTotal (F := Ideal) .gt l.1 r.1) x y).2 (ix2 i j) = y (ix2 i (ord x i j)) := by
  have e : sortedFrom (fun k k' : Fin 640 => FloatOps.cmpfTotal (F := Ideal) .gt (x (Shape.Idx.along (s := S640x640) (ix2 i j) (1 : Fin 2) (show Fin 640 from k)))
      (x (Shape.Idx.along (s := S640x640) (ix2 i j) (1 : Fin 2) (show Fin 640 from k'))) == 1#1) j = ord x i j :=
    congrArg (fun R : Fin 640 → Fin 640 → Bool => sortedFrom R j) (funext fun k => funext fun k' =>
      congrArg₂ (fun a b : S640x640.Idx => FloatOps.cmpfTotal (F := Ideal) .gt (x a) (x b) == 1#1) (along1 i j k) (along1 i j k'))
  unfold Host.sort2
  rw [dif_pos (show 1 < S640x640.rank from by decide)]
  exact ⟨(congrArg x (along1 i j _)).trans (congrArg (fun q => x (ix2 i q)) e), (congrArg y (along1 i j _)).trans (congrArg (fun q => y (ix2 i q)) e)⟩

/-- The places of a row, as the sort carries them along. -/
def places : IVec S640x640 32 := fun i => if hd : 1 < S640x640.rank then iotaInDim S640x640 32 ⟨1, hd⟩ i else 0#32
theorem top_val (x : FVec Ideal S640x640 .f32) (i : Fin 640) (k : Fin 10) :
    (Host.topK S640x10 1 (FloatOps.cmpfTotal (F := Ideal) .gt) x sliceFits_S640x640_S640x10).1 (ix2 i k) = x (ix2 i (ord x i (Net.rk k))) :=
  (slice0 (Host.sort2 S640x640 1 (fun l r => FloatOps.cmpfTotal (F := Ideal) .gt l.1 r.1) x places).1 sliceFits_S640x640_S640x10 i k).trans (sort_at x places i _).1
theorem top_idx (x : FVec Ideal S640x640 .f32) (i : Fin 640) (k : Fin 10) :
    (Host.topK S640x10 1 (FloatOps.cmpfTotal (F := Ideal) .gt) x sliceFits_S640x640_S640x10).2 (ix2 i k) = BitVec.ofNat 32 (ord x i (Net.rk k)).val :=
  ((slice0 (Host.sort2 S640x640 1 (fun l r => FloatOps.cmpfTotal (F := Ideal) .gt l.1 r.1) x places).2 sliceFits_S640x640_S640x10 i k).trans (sort_at x places i _).2).trans rfl

/-- A row's exponentials below its largest entry. -/
def expRow (x : FVec Ideal S640x10 .f32) : FVec Ideal S640x10 .f32 :=
  Host.exp (subf x (broadcastInDim S640x10 ![0, 1] bcast_S640x1_S640x10_0_1 (broadcastInDim S640x1 ![0] bcast_S640_S640x1_0 (maximumf (broadcastInDim S640 ![] bcast_S_S640 (constant S_ .f32 0xFF800000#32)) (Host.reduce FloatOps.maximumf x (constant S_ .f32 0xFF800000#32) reducesTo_S640x10_S640_d1 h_S_)))))
theorem expRow_at (x : FVec Ideal S640x10 .f32) (i : Fin 640) (k : Fin 10) (h : ∀ k, (x (ix2 i k) : EReal) ≤ x (ix2 i 0)) :
    expRow x (ix2 i k) = Ideal.exp (x (ix2 i k) - x (ix2 i 0)) := by
  pointwise [expRow]
  rw [Net.negInf_eq, Net.fold_first (fun k => x (ix2 i k)) h, max_eq_right bot_le]
/-- A row's shares of its sum. -/
def share (x : FVec Ideal S640x10 .f32) : FVec Ideal S640x10 .f32 :=
  Host.divf x (broadcastInDim S640x10 ![0, 1] bcast_S640x1_S640x10_0_1 (broadcastInDim S640x1 ![0] bcast_S640_S640x1_0 (Host.reduceAdd x (constant S_ .f32 0x00000000#32) reducesTo_S640x10_S640_d1 h_S_)))
theorem share_at (x : FVec Ideal S640x10 .f32) (i : Fin 640) (k : Fin 10) : share x (ix2 i k) = Ideal.div (x (ix2 i k)) (∑ k : Fin 10, x (ix2 i k)) := by
  pointwise [share]

/-- A node's neighbour among all the edges. -/
def pos (i : Fin 640) (k : Fin 10) : Fin 6400 := ⟨i.val * 10 + k.val, by omega⟩
theorem flat_at {α : Type} (x : S640x10.Idx → α) (h : S640x10.ShapeCasts S6400) (i : Fin 640) (k : Fin 10) : shapeCast S6400 x h (ix1 (pos i k)) = x (ix2 i k) :=
  shapeCast_apply x h _ _ (by rw [Shape.rowMajor_val_two, Shape.rowMajor_val_one]; rfl)

/-- The neighbours' table of a layer, gathered, weighted and added up node by node. -/
def hop (y : FVec Ideal S640x256 .f32) (v152 v155 : IVec S6400 32) (v156 : FVec Ideal S6400 .f32) : FVec Ideal S640x256 .f32 :=
  Host.scatterAdd scatter_S640x256_S6400x1_S6400x256_1_0_0_1 (broadcastInDim S640x256 ![] bcast_S_S640x256 (constant S_ .f32 0x00000000#32)) (broadcastInDim S6400x1 ![0] bcast_S6400_S6400x1_0 v155)
    (mulf (Host.gather gather_S640x256_S6400x1_S6400x256_1_0_n_n_0_1_1256 y (broadcastInDim S6400x1 ![0] bcast_S6400_S6400x1_0
        (select (cmpi .slt v152 (broadcastInDim S6400 ![] bcast_S_S6400 (constantI S_ 32 0#32))) (addi v152 (broadcastInDim S6400 ![] bcast_S_S6400 (constantI S_ 32 640#32))) v152)))
      (broadcastInDim S6400x256 ![0, 1] bcast_S6400x1_S6400x256_0_1 (broadcastInDim S6400x1 ![0] bcast_S6400_S6400x1_0 v156)))

/-- Where an edge's row is added. -/
theorem lands (idx : IVec S6400x1 32) (e : Fin 6400) (d' : Fin 256) (i : Fin 640) (d : Fin 256) :
    scatter_S640x256_S6400x1_S6400x256_1_0_0_1.resultIdx? (ix2 e d') idx = some (ix2 i d) ↔ (idx (ix2 e 0)).toInt = i.val ∧ d' = d := by
  have hsi : ∀ c, scatter_S640x256_S6400x1_S6400x256_1_0_0_1.siIdx (ix2 e d') c = ix2 e 0 := fun c => by
    funext b
    match b with
    | ⟨0, _⟩ => rfl
    | ⟨1, _⟩ => exact Subsingleton.elim (α := Fin 1) _ _
  have hs0 : scatter_S640x256_S6400x1_S6400x256_1_0_0_1.start (ix2 e d') idx 0 = (idx (ix2 e 0)).toInt := by
    unfold ScatterDims.start
    rw [dif_pos (show (0 : Fin 2) ∈ scatter_S640x256_S6400x1_S6400x256_1_0_0_1.scatterDimsToOperandDims from List.mem_singleton.2 rfl), hsi]
  have hs1 : scatter_S640x256_S6400x1_S6400x256_1_0_0_1.start (ix2 e d') idx 1 = 0 := by
    unfold ScatterDims.start
    rw [dif_neg (show ¬ (1 : Fin 2) ∈ scatter_S640x256_S6400x1_S6400x256_1_0_0_1.scatterDimsToOperandDims from by decide)]
  have hw0 : scatter_S640x256_S6400x1_S6400x256_1_0_0_1.window (ix2 e d') 0 = 0 := rfl
  have hw1 : scatter_S640x256_S6400x1_S6400x256_1_0_0_1.window (ix2 e d') 1 = d'.val := rfl
  refine (Routing.resultIdx?_ix2 (R := 640) (C := 256) _ _ _ i d).trans ?_
  rw [hs0, hs1, hw0, hw1]
  constructor
  · rintro ⟨h1, h2⟩; exact ⟨by simpa using h1, Fin.ext (by omega)⟩
  · rintro ⟨h1, rfl⟩; exact ⟨by simpa using h1, by omega⟩

theorem col_at {α : Type} (v : S6400.Idx → α) (e : Fin 6400) : broadcastInDim S6400x1 ![0] bcast_S6400_S6400x1_0 v (ix2 e 0) = v (ix1 e) := by
  pointwise

/-- The gathered and weighted row of an edge. -/
theorem edge_at (y : FVec Ideal S640x256 .f32) (v152 : IVec S6400 32) (v156 : FVec Ideal S6400 .f32) (e : Fin 6400) (d : Fin 256) (q : Fin 640) (hq : v152 (ix1 e) = BitVec.ofNat 32 q.val) :
    mulf (Host.gather gather_S640x256_S6400x1_S6400x256_1_0_n_n_0_1_1256 y (broadcastInDim S6400x1 ![0] bcast_S6400_S6400x1_0
        (select (cmpi .slt v152 (broadcastInDim S6400 ![] bcast_S_S6400 (constantI S_ 32 0#32))) (addi v152 (broadcastInDim S6400 ![] bcast_S_S6400 (constantI S_ 32 640#32))) v152)))
      (broadcastInDim S6400x256 ![0, 1] bcast_S6400x1_S6400x256_0_1 (broadcastInDim S6400x1 ![0] bcast_S6400_S6400x1_0 v156)) (ix2 e d) = (y (ix2 q d) : EReal) * v156 (ix1 e) := by
  refine congrArg₂ (fun a b : EReal => a * b) (Routing.gather_row _ rfl rfl rfl rfl rfl y _ e d q ?_ (by norm_num)) ?_
  · refine (col_at _ e).trans ?_
    show Scalar.select (IntOp.cmpi CmpIPredicate.slt (v152 (ix1 e)) 0#32) (IntOp.addi (v152 (ix1 e)) 640#32) (v152 (ix1 e)) = _
    rw [hq]
    refine Routing.wrap_of_lt _ _ ?_
    have := q.isLt
    rw [BitVec.toNat_ofNat, Nat.mod_eq_of_lt (by omega)]
    omega
  · pointwise

theorem hop_at (y : FVec Ideal S640x256 .f32) (v152 v155 : IVec S6400 32) (v156 : FVec Ideal S6400 .f32) (p : Fin 640 → Fin 10 → Fin 640) (w : Fin 640 → Fin 10 → EReal)
    (h2 : ∀ i k, v152 (ix1 (pos i k)) = BitVec.ofNat 32 (p i k).val) (h5 : ∀ i k, v155 (ix1 (pos i k)) = BitVec.ofNat 32 i.val) (h6 : ∀ i k, v156 (ix1 (pos i k)) = w i k)
    (i : Fin 640) (d : Fin 256) : hop y v152 v155 v156 (ix2 i d) = ∑ k : Fin 10, (y (ix2 (p i k) d) : EReal) * w i k := by
  have hi := i.isLt
  unfold hop
  show (Ideal.ofBits FTy.f32 0#32 + ∑ j ∈ Finset.univ.filter (fun j => scatter_S640x256_S6400x1_S6400x256_1_0_0_1.resultIdx? j (broadcastInDim S6400x1 ![0] bcast_S6400_S6400x1_0 v155) = some (ix2 i d)), _ : EReal) = _
  rw [show Ideal.ofBits FTy.f32 0#32 = 0 by simp [Ideal.ofBits, Ideal.ieee], zero_add]
  have hx : ∀ i' k, (broadcastInDim S6400x1 ![0] bcast_S6400_S6400x1_0 v155 (ix2 (pos i' k) 0)).toInt = (i'.val : Int) := fun i' k => by
    rw [col_at, h5, Net.toInt_ofNat (by omega)]
  symm
  refine Finset.sum_bij (M := EReal) (fun k _ => ix2 (pos i k) d) (fun k _ => ?_) (fun a _ b _ hab => ?_) (fun j hj => ?_) (fun k _ => ?_)
  · exact Finset.mem_filter.mpr ⟨Finset.mem_univ _, (lands _ _ _ _ _).mpr ⟨hx i k, rfl⟩⟩
  · have h := congrArg Fin.val (congrFun hab 0)
    change i.val * 10 + a.val = i.val * 10 + b.val at h
    exact Fin.ext (by omega)
  · have h := (Finset.mem_filter.mp hj).2
    rw [eq_ix2 j] at h
    obtain ⟨e, d', rfl⟩ : ∃ (e : Fin 6400) (d' : Fin 256), j = ix2 e d' := ⟨j 0, j 1, eq_ix2 j⟩
    have hl := (lands _ e d' i d).mp h
    have he := e.isLt
    have ee : e = pos ⟨e.val / 10, by omega⟩ ⟨e.val % 10, by omega⟩ := Fin.ext (by show e.val = e.val / 10 * 10 + e.val % 10; omega)
    have h1 := hl.1
    rw [ee, hx] at h1
    refine ⟨⟨e.val % 10, by omega⟩, Finset.mem_univ _, ?_⟩
    have h1' : e.val / 10 = i.val := by exact_mod_cast h1
    rw [← hl.2]
    exact congrArg (fun e => ix2 e d') (Fin.ext (by show i.val * 10 + e.val % 10 = e.val; omega))
  · rw [edge_at y v152 v156 (pos i k) d (p i k) (h2 i k), h6]
variable (V0 : Valuation τ sig (Elt Ideal))

theorem at138 (i : Fin 640) (f : Fin 256) : res_main_v138 V0 (ix2 i f) = (inp V0).emb i f := by
  pointwise [res_main_v138]
  unfold Net.In.emb
  refine Finset.sum_congr (M := EReal) rfl fun d _ => congrArg (fun a : EReal => a * (inp V0).dsl d f) ?_
  unfold Net.In.xc
  by_cases h : i.val < 128
  · rw [dif_pos h, dif_pos h]
    exact at131 V0 _ d
  · rw [dif_neg h, dif_neg h]
    rfl
theorem at140 (i j : Fin 640) : res_main_v140 V0 (ix2 i j) = (inp V0).sim i j := by
  pointwise [res_main_v140]
  exact Finset.sum_congr (M := EReal) rfl fun x _ => congrArg₂ (fun a b : EReal => a * b) (at138 V0 i x) (at138 V0 j x)
theorem atVal (i : Fin 640) (k : Fin 10) : res_main_values V0 (ix2 i k) = (inp V0).sim i (ord (res_main_v140 V0) i (Net.rk k)) :=
  (top_val _ i k).trans (at140 V0 _ _)
theorem at152 (i : Fin 640) (k : Fin 10) : res_main_v152 V0 (ix1 (pos i k)) = BitVec.ofNat 32 (ord (res_main_v140 V0) i (Net.rk k)).val :=
  (flat_at _ _ i k).trans (top_idx _ i k)
theorem at155 (i : Fin 640) (k : Fin 10) : res_main_v155 V0 (ix1 (pos i k)) = BitVec.ofNat 32 i.val :=
  (flat_at _ _ i k).trans rfl

variable (ok : Net.Ok (inp V0))
include ok
theorem ranks (i : Fin 640) : Net.Ranks ((inp V0).sim i) (ord (res_main_v140 V0) i) := by
  have h := ord_ranks (res_main_v140 V0) i fun j => by rw [at140]; exact (ok.sim i j).ne_bot
  have e : (fun j => res_main_v140 V0 (ix2 i j)) = (inp V0).sim i := funext fun j => at140 V0 i j
  rw [← e]
  exact h
theorem at147 (i : Fin 640) (k : Fin 10) : res_main_v147 V0 (ix2 i k)
    = Ideal.exp ((inp V0).sim i (ord (res_main_v140 V0) i (Net.rk k)) - (inp V0).sim i (ord (res_main_v140 V0) i 0)) := by
  refine (expRow_at (res_main_values V0) i k fun k => ?_).trans ?_
  · rw [atVal, atVal]
    exact (ranks V0 ok i).le (Fin.zero_le _)
  · rw [atVal, atVal]
    rfl
theorem at156 (i : Fin 640) (k : Fin 10) : res_main_v156 V0 (ix1 (pos i k)) = Net.wgt ((inp V0).sim i) (ord (res_main_v140 V0) i) k := by
  refine (flat_at (share (res_main_v147 V0)) shapeCasts_S640x10_S6400 i k).trans ((share_at _ i k).trans ?_)
  simp only [at147 V0 ok]
  rfl

/-- The graph layers' input: the samples' features, and zero elsewhere. -/
def seed (v131 : FVec Ideal S128x256 .f32) : FVec Ideal S640x256 .f32 :=
  Host.scatter scatter_S640x256_S1_S128x256_01_n_0_0 (fun _ b => b) (broadcastInDim S640x256 ![] bcast_S_S640x256 (constant S_ .f32 0x00000000#32)) (broadcastInDim S1 ![] bcast_S_S1 (constantI S_ 32 0#32)) v131
omit ok in
theorem seed_lands (b : Fin 128) (d' : Fin 256) (i : Fin 640) (d : Fin 256) :
    scatter_S640x256_S1_S128x256_01_n_0_0.resultIdx? (ix2 b d') (broadcastInDim S1 ![] bcast_S_S1 (constantI S_ 32 0#32)) = some (ix2 i d) ↔ b.val = i.val ∧ d' = d := by
  have hs0 : scatter_S640x256_S1_S128x256_01_n_0_0.start (ix2 b d') (broadcastInDim S1 ![] bcast_S_S1 (constantI S_ 32 0#32)) 0 = 0 := by
    unfold ScatterDims.start
    rw [dif_pos (show (0 : Fin 2) ∈ scatter_S640x256_S1_S128x256_01_n_0_0.scatterDimsToOperandDims from List.mem_singleton.2 rfl)]
    rfl
  have hs1 : scatter_S640x256_S1_S128x256_01_n_0_0.start (ix2 b d') (broadcastInDim S1 ![] bcast_S_S1 (constantI S_ 32 0#32)) 1 = 0 := by
    unfold ScatterDims.start
    rw [dif_neg (show ¬ (1 : Fin 2) ∈ scatter_S640x256_S1_S128x256_01_n_0_0.scatterDimsToOperandDims from by decide)]
  have hw0 : scatter_S640x256_S1_S128x256_01_n_0_0.window (ix2 b d') 0 = b.val := rfl
  have hw1 : scatter_S640x256_S1_S128x256_01_n_0_0.window (ix2 b d') 1 = d'.val := rfl
  refine (Routing.resultIdx?_ix2 (R := 640) (C := 256) _ _ _ i d).trans ?_
  rw [hs0, hs1, hw0, hw1]
  constructor
  · rintro ⟨h1, h2⟩; exact ⟨by omega, Fin.ext (by omega)⟩
  · rintro ⟨h1, rfl⟩; exact ⟨by omega, by omega⟩
omit ok in
theorem seed_at (v131 : FVec Ideal S128x256 .f32) (i : Fin 640) (d : Fin 256) : seed v131 (ix2 i d) = if h : i.val < 128 then v131 (ix2 ⟨i.val, h⟩ d) else (0 : EReal) := by
  by_cases h : i.val < 128
  · rw [dif_pos h]
    refine Routing.scatter_set_hit _ _ _ _ _ _ (fun k hk => ?_) (ix2 ⟨i.val, h⟩ d) ((seed_lands _ _ _ _).mpr ⟨rfl, rfl⟩)
    obtain ⟨b, d', rfl⟩ : ∃ (b : Fin 128) (d' : Fin 256), k = ix2 b d' := ⟨k 0, k 1, eq_ix2 k⟩
    have hl := (seed_lands _ _ _ _).mp hk
    rw [hl.2]
    exact congrArg (fun b => v131 (ix2 b d)) (Fin.ext hl.1)
  · rw [dif_neg h]
    refine (Routing.scatter_set_miss _ _ _ _ _ (fun k hk => ?_)).trans ?_
    · obtain ⟨b, d', rfl⟩ : ∃ (b : Fin 128) (d' : Fin 256), k = ix2 b d' := ⟨k 0, k 1, eq_ix2 k⟩
      have hl := (seed_lands _ _ _ _).mp hk
      have := b.isLt
      omega
    · show Ideal.ofBits FTy.f32 0#32 = 0
      simp [Ideal.ofBits, Ideal.ieee]

/-- The first graph layer's table. -/
def layT (y : FVec Ideal S640x256 .f32) (w : FVec Ideal S256x256 .f32) : FVec Ideal S640x256 .f32 :=
  maximumf (Host.dotGeneral dot_S640x256_S256x256_S640x256_1_0_0_1_n_n none y w) (broadcastInDim S640x256 ![] bcast_S_S640x256 (constant S_ .f32 0x00000000#32))
omit ok in
theorem layT_at (y : FVec Ideal S640x256 .f32) (w : FVec Ideal S256x256 .f32) (i : Fin 640) (d : Fin 256) :
    layT y w (ix2 i d) = max (∑ z : Fin 256, (y (ix2 i z) : EReal) * w (ix2 z d)) 0 := by
  pointwise [layT]
/-- The graph's scores of the samples. -/
def headT (y : FVec Ideal S640x256 .f32) (w : FVec Ideal S256x2 .f32) : FVec Ideal S128x2 .f32 :=
  extractStridedSlice S128x2 ![0, 0] (Host.dotGeneral dot_S640x256_S256x2_S640x2_1_0_0_1_n_n none y w) slices_S640x2_S128x2_0_0
omit ok in
theorem headT_at (y : FVec Ideal S640x256 .f32) (w : FVec Ideal S256x2 .f32) (b : Fin 128) (o : Fin 2) :
    headT y w (ix2 b o) = ∑ d : Fin 256, (y (ix2 (Net.node b) d) : EReal) * w (ix2 d o) := by
  pointwise [headT]
  rfl
/-- The linear head's scores. -/
def linT (y : FVec Ideal S128x256 .f32) (w : FVec Ideal S256x2 .f32) (z : FVec Ideal S2 .f32) : FVec Ideal S128x2 .f32 :=
  addf (Host.dotGeneral dot_S128x256_S256x2_S128x2_1_0_0_1_n_n none y w) (broadcastInDim S128x2 ![0, 1] bcast_S1x2_S128x2_0_1 (broadcastInDim S1x2 ![1] bcast_S2_S1x2_1 z))
omit ok in
theorem linT_at (y : FVec Ideal S128x256 .f32) (w : FVec Ideal S256x2 .f32) (z : FVec Ideal S2 .f32) (b : Fin 128) (o : Fin 2) :
    linT y w z (ix2 b o) = ∑ d : Fin 256, (y (ix2 b d) : EReal) * w (ix2 d o) + z (ix1 o) := by
  pointwise [linT]

/-- The reference's two results. -/
def out0 : FVec Ideal S128x2 .f32 := linT (res_main_v131 V0) (V0 (Proc.devRef .tc main_arg13)) (V0 (Proc.devRef .tc main_arg14))
def out1 : FVec Ideal S128x2 .f32 :=
  headT (hop (layT (hop (seed (res_main_v131 V0)) (res_main_v152 V0) (res_main_v155 V0) (res_main_v156 V0)) (V0 (Proc.devRef .tc main_arg16))) (res_main_v152 V0) (res_main_v155 V0) (res_main_v156 V0)) (V0 (Proc.devRef .tc main_arg17))

omit ok in
theorem out0_at (b : Fin 128) (o : Fin 2) : out0 V0 (ix2 b o) = (inp V0).lm b o := by
  refine (linT_at _ _ _ b o).trans ?_
  simp only [at131]
  rfl
/-- A layer's sums, the neighbours in the reference's order. -/
theorem hop_agg (y : FVec Ideal S640x256 .f32) (i : Fin 640) (d : Fin 256) :
    hop y (res_main_v152 V0) (res_main_v155 V0) (res_main_v156 V0) (ix2 i d) = (inp V0).agg (ord (res_main_v140 V0)) (fun i d => y (ix2 i d)) i d :=
  hop_at y _ _ _ (fun i k => ord (res_main_v140 V0) i (Net.rk k)) (fun i k => Net.wgt ((inp V0).sim i) (ord (res_main_v140 V0) i) k)
    (at152 V0) (at155 V0) (at156 V0 ok) i d
theorem out1_at (b : Fin 128) (o : Fin 2) : out1 V0 (ix2 b o) = (inp V0).lg (ord (res_main_v140 V0)) (Net.node b) o := by
  refine (headT_at _ _ b o).trans (Finset.sum_congr rfl fun d _ => ?_)
  refine congrArg (fun a : EReal => a * (inp V0).w2 d o) ((hop_agg V0 ok _ _ d).trans ?_)
  refine congrArg (fun y => (inp V0).agg (ord (res_main_v140 V0)) y (Net.node b) d) (funext fun i => funext fun z => (layT_at _ _ i z).trans ?_)
  refine congrArg (fun a : EReal => max a 0) (Finset.sum_congr rfl fun x _ => congrArg (fun a : EReal => a * (inp V0).w1 x z) ((hop_agg V0 ok _ i x).trans ?_))
  refine congrArg (fun y => (inp V0).agg (ord (res_main_v140 V0)) y i x) (funext fun j => funext fun f => (seed_at _ j f).trans ?_)
  unfold Net.In.x0
  simp only [at131]
end Cert.ReferenceIdeal.Value
-- ==== Proof.Same.lean ====
/- The two programs' results are equal. -/
module

public import proofs.«01_k».proof.Proof.KerV
public import proofs.«01_k».proof.Proof.KRun
public import proofs.«01_k».proof.Proof.PreR
public import proofs.«01_k».proof.Proof.RefB

@[expose] public section

set_option maxRecDepth 16384
noncomputable section
open Idealize.ShloMosaic Idealize.ShloMosaic.TcCoe Idealize.SL.Sem
namespace Cert.KernelIdeal.Value
open Cert.KernelIdeal Cert.KernelIdeal.Gen

/-- The mathematics' arguments, of nineteen arrays. -/
def ofArgs (a0 : FVec Ideal S128x512x256 .f32) (a1 : FVec Ideal S256x256 .f32) (a2 : FVec Ideal S256 .f32) (a3 : FVec Ideal S256 .f32) (a4 : FVec Ideal S256 .f32) (a5 : FVec Ideal S256 .f32) (a6 : FVec Ideal S256x64 .f32) (a7 : FVec Ideal S256x64 .f32) (a8 : FVec Ideal S256x64 .f32) (a9 : FVec Ideal S256x64 .f32) (a10 : FVec Ideal S256 .f32) (a11 : FVec Ideal S256x512 .f32) (a12 : FVec Ideal S512 .f32) (a13 : FVec Ideal S256x2 .f32) (a14 : FVec Ideal S2 .f32) (a15 : FVec Ideal S256x256 .f32) (a16 : FVec Ideal S256x256 .f32) (a17 : FVec Ideal S256x2 .f32) (a18 : FVec Ideal S2x256x256 .f32) : Net.In where
  x b l k := a0 (ix3 b l k)
  fw k h := a1 (ix2 k h)
  fb h := a2 (ix1 h)
  g h := a3 (ix1 h)
  be h := a4 (ix1 h)
  ldt h := a5 (ix1 h)
  are h k := a6 (ix2 h k)
  aim h k := a7 (ix2 h k)
  cre h k := a8 (ix2 h k)
  cim h k := a9 (ix2 h k)
  D h := a10 (ix1 h)
  ow h k := a11 (ix2 h k)
  ob k := a12 (ix1 k)
  f2 h o := a13 (ix2 h o)
  f2b o := a14 (ix1 o)
  dsl k h := a15 (ix2 k h)
  w1 k h := a16 (ix2 k h)
  w2 h o := a17 (ix2 h o)
  reh n j d := a18 (ix3 n j d)

variable (m : (ℓ : Loc nD τ sig) → Buf (Elt Ideal) ℓ) (ρ : Dev nD → PrngReg) (m' : (ℓ : Loc Cert.ReferenceIdeal.nD Cert.ReferenceIdeal.τ Cert.ReferenceIdeal.sig) → Buf (Elt Ideal) ℓ) (c : Dev nD)

/-- Equal arguments are the same mathematics' arguments. -/
theorem same_args (h : m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)
    ∧ m' ((c.tc : Thread Cert.ReferenceIdeal.nD Cert.ReferenceIdeal.τ).loc Cert.ReferenceIdeal.main_arg6) = m ((c.tc : Thread nD τ).loc main_arg6)
    ∧ m' ((c.tc : Thread Cert.ReferenceIdeal.nD Cert.ReferenceIdeal.τ).loc Cert.ReferenceIdeal.main_arg7) = m ((c.tc : Thread nD τ).loc main_arg7)
    ∧ m' ((c.tc : Thread Cert.ReferenceIdeal.nD Cert.ReferenceIdeal.τ).loc Cert.ReferenceIdeal.main_arg8) = m ((c.tc : Thread nD τ).loc main_arg8)
    ∧ m' ((c.tc : Thread Cert.ReferenceIdeal.nD Cert.ReferenceIdeal.τ).loc Cert.ReferenceIdeal.main_arg9) = m ((c.tc : Thread nD τ).loc main_arg9)
    ∧ m' ((c.tc : Thread Cert.ReferenceIdeal.nD Cert.ReferenceIdeal.τ).loc Cert.ReferenceIdeal.main_arg10) = m ((c.tc : Thread nD τ).loc main_arg10)
    ∧ m' ((c.tc : Thread Cert.ReferenceIdeal.nD Cert.ReferenceIdeal.τ).loc Cert.ReferenceIdeal.main_arg11) = m ((c.tc : Thread nD τ).loc main_arg11)
    ∧ m' ((c.tc : Thread Cert.ReferenceIdeal.nD Cert.ReferenceIdeal.τ).loc Cert.ReferenceIdeal.main_arg12) = m ((c.tc : Thread nD τ).loc main_arg12)
    ∧ m' ((c.tc : Thread Cert.ReferenceIdeal.nD Cert.ReferenceIdeal.τ).loc Cert.ReferenceIdeal.main_arg13) = m ((c.tc : Thread nD τ).loc main_arg13)
    ∧ m' ((c.tc : Thread Cert.ReferenceIdeal.nD Cert.ReferenceIdeal.τ).loc Cert.ReferenceIdeal.main_arg14) = m ((c.tc : Thread nD τ).loc main_arg14)
    ∧ m' ((c.tc : Thread Cert.ReferenceIdeal.nD Cert.ReferenceIdeal.τ).loc Cert.ReferenceIdeal.main_arg15) = m ((c.tc : Thread nD τ).loc main_arg15)
    ∧ m' ((c.tc : Thread Cert.ReferenceIdeal.nD Cert.ReferenceIdeal.τ).loc Cert.ReferenceIdeal.main_arg16) = m ((c.tc : Thread nD τ).loc main_arg16)
    ∧ m' ((c.tc : Thread Cert.ReferenceIdeal.nD Cert.ReferenceIdeal.τ).loc Cert.ReferenceIdeal.main_arg17) = m ((c.tc : Thread nD τ).loc main_arg17)
    ∧ m' ((c.tc : Thread Cert.ReferenceIdeal.nD Cert.ReferenceIdeal.τ).loc Cert.ReferenceIdeal.main_arg18) = m ((c.tc : Thread nD τ).loc main_arg18)) :
    Cert.ReferenceIdeal.Value.inp (StableHlo.launchContents m' c) = inp m c := by
  obtain ⟨h0, h1, h2, h3, h4, h5, h6, h7, h8, h9, h10, h11, h12, h13, h14, h15, h16, h17, h18⟩ := h
  exact (congr (congr (congr (congr (congr (congr (congr (congr (congr (congr (congr (congr (congr (congr (congr (congr (congr (congr (congrArg ofArgs h0) h1) h2) h3) h4) h5) h6) h7) h8) h9) h10) h11) h12) h13) h14) h15) h16) h17) h18)

variable (ok : Net.Ok (inp m c)) (h : Cert.ReferenceIdeal.Value.inp (StableHlo.launchContents m' c) = inp m c)
include ok h

theorem same0 : Cert.ReferenceIdeal.Value.out0 (StableHlo.launchContents m' c) = W8 m ρ c (Proc.devRef .tc main_v50_0) := by
  funext j
  obtain ⟨b, o, rfl⟩ : ∃ (b : Fin 128) (o : Fin 2), j = ix2 b o := ⟨j 0, j 1, eq_ix2 j⟩
  exact (Cert.ReferenceIdeal.Value.out0_at _ b o).trans ((congrArg (fun A : Net.In => A.lm b o) h).trans (s50_0 m ρ c ok b o).symm)

theorem same1 : Cert.ReferenceIdeal.Value.out1 (StableHlo.launchContents m' c) = W8 m ρ c (Proc.devRef .tc main_v50_1) := by
  funext j
  obtain ⟨b, o, rfl⟩ : ∃ (b : Fin 128) (o : Fin 2), j = ix2 b o := ⟨j 0, j 1, eq_ix2 j⟩
  have ok' : Net.Ok (Cert.ReferenceIdeal.Value.inp (StableHlo.launchContents m' c)) := h ▸ ok
  have hr : ∀ i, Net.Ranks ((inp m c).sim i) (Cert.ReferenceIdeal.Value.ord (Cert.ReferenceIdeal.Value.res_main_v140 (StableHlo.launchContents m' c)) i) := fun i => by
    rw [← h]
    exact Cert.ReferenceIdeal.Value.ranks _ ok' i
  exact (Cert.ReferenceIdeal.Value.out1_at _ ok' b o).trans ((congrArg (fun A : Net.In => A.lg _ (Net.node b) o) h).trans (s50_1 m ρ c ok _ hr b o).symm)
end Cert.KernelIdeal.Value
-- ==== Proof.lean ====
/- The certificate's claims: the three programs' frames, the idealization, and the equality of both results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem

/-- The reference runs, keeps its arguments, and has no semaphore to leave raised. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run (F := Ideal) m ρ)

/-- Both results of the kernel are the reference's, wherever the arguments are finite and no pole is zero. -/
theorem results : Cert.algebraic_KernelIdeal_ReferenceIdeal_pre_finite_and_poles (hKernelIdeal := Cert.KernelIdeal.Gen.facts)
    (hReferenceIdeal := Cert.ReferenceIdeal.Gen.facts) (hPre_finite_and_poles := Cert.Pre_finite_and_poles.facts) := by
  intro m g m' g' hpre hagree
  have ok := fun c => Cert.Pre_finite_and_poles.ok m hpre c
  have hin := fun c => Cert.KernelIdeal.Value.same_args m m' c (hagree c)
  refine ⟨_, _, Cert.KernelIdeal.Value.run m g, ?_⟩
  refine (θ_run _ _ _).mono (fun r h c => ?_) (Cert.ReferenceIdeal.Value.run (F := Ideal) m' g')
  obtain ⟨h0, h1, hr⟩ := h c
  exact ⟨h0.trans (Cert.KernelIdeal.Value.same0 m g m' c (ok c) (hin c)), h1.trans (Cert.KernelIdeal.Value.same1 m g m' c (ok c) (hin c)), hr⟩

theorem claim : Cert.Claim :=
  ⟨Cert.Kernel.Gen.facts, Cert.KernelIdeal.Gen.facts, Cert.ReferenceIdeal.Gen.facts, Cert.Pre_finite_and_poles.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, results⟩

end Cert.Proof

end
